-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S8192x4 : Shape := ⟨2, ![8192, 4]⟩
abbrev S8192x8 : Shape := ⟨2, ![8192, 8]⟩
abbrev S1x8192 : Shape := ⟨2, ![1, 8192]⟩
abbrev S32x1x256 : Shape := ⟨3, ![32, 1, 256]⟩
abbrev S256x128 : Shape := ⟨2, ![256, 128]⟩
abbrev S256x8 : Shape := ⟨2, ![256, 8]⟩
abbrev S1x256 : Shape := ⟨2, ![1, 256]⟩
abbrev S1x1x256 : Shape := ⟨3, ![1, 1, 256]⟩
abbrev S8192x256 : Shape := ⟨2, ![8192, 256]⟩
abbrev S256 : Shape := ⟨1, ![256]⟩
abbrev S256x256 : Shape := ⟨2, ![256, 256]⟩

abbrev nBuf : Space → Nat
  | .hbm => 38
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1, .bf16⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S_, .f32⟩
  | .hbm, ⟨16, _⟩ => ⟨S8192x4, .f32⟩
  | .hbm, ⟨17, _⟩ => ⟨S8192x8, .f32⟩
  | .hbm, ⟨18, _⟩ => ⟨S8192x8, .bf16⟩
  | .hbm, ⟨19, _⟩ => ⟨S8192x8, .f32⟩
  | .hbm, ⟨20, _⟩ => ⟨S8192x8, .bf16⟩
  | .hbm, ⟨21, _⟩ => ⟨S8192x1, .i32⟩
  | .hbm, ⟨22, _⟩ => ⟨S1x8192, .i32⟩
  | .hbm, ⟨23, _⟩ => ⟨S32x1x256, .f32⟩
  | .hbm, ⟨24, _⟩ => ⟨S32x1x256, .f32⟩
  | .hbm, ⟨25, _⟩ => ⟨S32x1x256, .i32⟩
  | .hbm, ⟨26, _⟩ => ⟨S_, .i32⟩
  | .hbm, ⟨27, _⟩ => ⟨S_, .i32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .i32⟩
  | .hbm, ⟨35, _⟩ => ⟨S_, .i32⟩
  | .hbm, ⟨36, _⟩ => ⟨S_, .f32⟩
  | .hbm, ⟨37, _⟩ => ⟨S_, .f32⟩
  | .local _ .vmem, ⟨0, _⟩ => ⟨S8192x128, .bf16⟩
  | .local _ .vmem, ⟨1, _⟩ => ⟨S256x128, .bf16⟩
  | .local _ .vmem, ⟨2, _⟩ => ⟨S256x128, .bf16⟩
  | .local _ .vmem, ⟨3, _⟩ => ⟨S8192x8, .bf16⟩
  | .local _ .vmem, ⟨4, _⟩ => ⟨S256x8, .bf16⟩
  | .local _ .vmem, ⟨5, _⟩ => ⟨S256x8, .bf16⟩
  | .local _ .vmem, ⟨6, _⟩ => ⟨S8192x1, .i32⟩
  | .local _ .vmem, ⟨7, _⟩ => ⟨S1x256, .i32⟩
  | .local _ .vmem, ⟨8, _⟩ => ⟨S1x256, .i32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S8192x256, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c256_i32 : BitVec 32 := 256#32
  let v31 : BitVec 32 := Scalar.muli arg0 c256_i32
  let v32 : Index := Scalar.indexCast v31
  let c0_18 : Index := 0#32
  ![v32.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8192x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 71
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x1, .i32⟩
  | .hbm, ⟨29, _⟩ => ⟨S1x8192, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S8192x8192, .i1⟩
  | .hbm, ⟨34, _⟩ => ⟨S8192x8192, .i1⟩
  | .hbm, ⟨35, _⟩ => ⟨S8192x8192, .i1⟩
  | .hbm, ⟨36, _⟩ => ⟨S_, .i1⟩
  | .hbm, ⟨37, _⟩ => ⟨S8192, .i1⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S8192x1, .i1⟩
  | .hbm, ⟨44, _⟩ => ⟨S8192x8192, .i1⟩
  | .hbm, ⟨45, _⟩ => ⟨S8192x8192, .i1⟩
  | .hbm, ⟨46, _⟩ => ⟨S8192x1, .f32⟩
  | .hbm, ⟨47, _⟩ => ⟨S8192x8192, .f32⟩
  | .hbm, ⟨48, _⟩ => ⟨S8192x8192, .i1⟩
  | .hbm, ⟨49, _⟩ => ⟨S8192x8192, .i1⟩
  | .hbm, ⟨50, _⟩ => ⟨S8192x1, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S8192x8192, .i32⟩
  | .hbm, ⟨60, _⟩ => ⟨S_, .i32⟩
  | .hbm, ⟨61, _⟩ => ⟨S_, .i32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S_, .f32⟩
  | .hbm, ⟨67, _⟩ => ⟨S_, .i32⟩
  | .hbm, ⟨68, _⟩ => ⟨S_, .i32⟩
  | .hbm, ⟨69, _⟩ => ⟨S_, .f32⟩
  | .hbm, ⟨70, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_v28 : Ref sig .tc := ⟨.hbm, 37, rfl⟩
abbrev main_cst_4 : Ref sig .tc := ⟨.hbm, 38, rfl⟩
abbrev main_call1_v0 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_8 : Ref sig .tc := ⟨.hbm, 60, rfl⟩
abbrev main_v46 : Ref sig .tc := ⟨.hbm, 61, rfl⟩
abbrev main_cst_9 : Ref sig .tc := ⟨.hbm, 62, rfl⟩
abbrev main_call2_v0 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_c_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Proof.Mining.lean ====
/-  The mathematics of hard-negative triplet mining, with no program in it: a table of squared distances `D`, a label per
    row, the nearest row of another label (`hard`), the valid pairs, their number, and the two ways of adding up the loss
    — over pairs (the textbook's) and as twice a sum of half-gaps plus the number of pairs (the kernel's) — with the proof
    that the two agree. -/
module

public import Idealize.ShloMosaic.PureOps.Ideal
public import Idealize.ShloMosaic.PureOps.Ideal.Laws
public import Idealize.ShloMosaic.Lib.ValueIdx

@[expose] public section

noncomputable section

open scoped BigOperators

namespace Mining

open Idealize.ShloMosaic

/-! ## The table of squared distances -/

/-- The dot product of two rows. -/
def dot {n d : ℕ} (x : Fin n → Fin d → ℝ) (i j : Fin n) : ℝ := ∑ k, x i k * x j k

/-- The squared Euclidean distance of two rows. -/
def dist {n d : ℕ} (x : Fin n → Fin d → ℝ) (i j : Fin n) : ℝ := ∑ k, (x i k - x j k) ^ 2

/-- Squared norms and the dot product give the squared distance. -/
theorem dist_eq {n d : ℕ} (x : Fin n → Fin d → ℝ) (i j : Fin n) :
    dist x i j = dot x i i + dot x j j - 2 * dot x i j := by
  unfold dist dot
  rw [Finset.mul_sum, ← Finset.sum_add_distrib, ← Finset.sum_sub_distrib]
  exact Finset.sum_congr rfl fun k _ => by ring

/-- A squared distance is not negative. -/
theorem dist_nonneg {n d : ℕ} (x : Fin n → Fin d → ℝ) (i j : Fin n) : 0 ≤ dist x i j :=
  Finset.sum_nonneg fun _ _ => sq_nonneg _

/-- A row is at distance zero from itself. -/
theorem dist_self {n d : ℕ} (x : Fin n → Fin d → ℝ) (i : Fin n) : dist x i i = 0 := by
  simp [dist]

/-- The distance does not depend on the order of the rows. -/
theorem dist_comm {n d : ℕ} (x : Fin n → Fin d → ℝ) (i j : Fin n) : dist x i j = dist x j i :=
  Finset.sum_congr rfl fun k _ => by ring

/-! ## The nearest negative, the valid pairs, their number -/

section
variable {n : ℕ} {L : Type} [DecidableEq L] (D : Fin n → Fin n → ℝ) (lab : Fin n → L)

/-- The least distance from `i` to a row of another label (`+∞` when every row has `i`'s label). -/
def hard (i : Fin n) : EReal := Finset.univ.inf fun j => if lab i = lab j then (⊤ : EReal) else (D i j : EReal)

/-- The greatest of minus half the distances from `i` to the rows of another label (`−∞` when there is none). -/
def near (i : Fin n) : EReal :=
  Finset.univ.sup fun j => if lab i = lab j then (⊥ : EReal) else ((-(D i j / 2) : ℝ) : EReal)

/-- A pair of two different rows of one label, farther apart than the anchor's nearest negative. -/
def Valid (i j : Fin n) : Prop := lab i = lab j ∧ i ≠ j ∧ hard D lab i < (D i j : EReal)

open Classical in
/-- The number of valid pairs with anchor `i`. -/
def cnt (i : Fin n) : ℕ := (Finset.univ.filter fun j => Valid D lab i j).card

/-- The number of valid pairs. -/
def count : ℕ := ∑ i, cnt D lab i

/-- Either no row has another label, and then `hard` is `+∞` and `near` is `−∞`; or some row has, and then `hard` is a
    real `r` and `near` is `−r/2`. -/
theorem hard_cases (hD : ∀ i j, 0 ≤ D i j) (i : Fin n) :
    (hard D lab i = ⊤ ∧ near D lab i = ⊥)
      ∨ ∃ r : ℝ, 0 ≤ r ∧ (∃ j, lab i ≠ lab j) ∧ hard D lab i = r ∧ near D lab i = ((-(r / 2) : ℝ) : EReal) := by
  by_cases h : ∃ j, lab i ≠ lab j
  · right
    have hne : (Finset.univ.filter fun j => lab i ≠ lab j).Nonempty := by
      obtain ⟨j, hj⟩ := h
      exact ⟨j, by simpa using hj⟩
    obtain ⟨j0, hj0, hmin⟩ := Finset.exists_min_image _ (fun j => D i j) hne
    have hj0' : lab i ≠ lab j0 := (Finset.mem_filter.1 hj0).2
    refine ⟨D i j0, hD i j0, h, le_antisymm ?_ ?_, le_antisymm ?_ ?_⟩
    · exact (Finset.inf_le (Finset.mem_univ j0)).trans (by rw [if_neg hj0'])
    · refine Finset.le_inf fun j _ => ?_
      split_ifs with hl
      · exact le_top
      · exact EReal.coe_le_coe_iff.2 (hmin j (Finset.mem_filter.2 ⟨Finset.mem_univ _, hl⟩))
    · refine Finset.sup_le fun j _ => ?_
      split_ifs with hl
      · exact bot_le
      · have := hmin j (Finset.mem_filter.2 ⟨Finset.mem_univ _, hl⟩)
        exact EReal.coe_le_coe_iff.2 (by linarith)
    · exact le_trans (by rw [if_neg hj0']) (Finset.le_sup (f := fun j => if lab i = lab j then (⊥ : EReal) else ((-(D i j / 2) : ℝ) : EReal)) (Finset.mem_univ j0))
  · left
    have h' : ∀ j, lab i = lab j := fun j => by by_contra hc; exact h ⟨j, hc⟩
    constructor
    · unfold hard
      refine (Finset.inf_congr rfl fun j _ => if_pos (h' j)).trans ?_
      exact le_antisymm le_top (Finset.le_inf fun _ _ => le_rfl)
    · unfold near
      refine (Finset.sup_congr rfl fun j _ => if_pos (h' j)).trans ?_
      exact le_antisymm (Finset.sup_le fun _ _ => le_rfl) bot_le

/-- A valid pair's anchor has a row of another label. -/
theorem Valid.exists_ne (hD : ∀ i j, 0 ≤ D i j) {i j : Fin n} (h : Valid D lab i j) : ∃ k, lab i ≠ lab k := by
  rcases hard_cases D lab hD i with ⟨ht, _⟩ | ⟨r, _, he, _⟩
  · have := h.2.2; rw [ht] at this; exact absurd this (not_lt.2 le_top)
  · exact he

/-! ## One pair, as the kernel and as the textbook have it -/

/-- The kernel's entry for the pair: minus half the distance, and `+∞` where the pair is not of two rows of one label. -/
def entry (i j : Fin n) : EReal :=
  if lab i = lab j ∧ i ≠ j then ((-(D i j / 2) : ℝ) : EReal) else ⊤

/-- The kernel's half-gap of a pair. -/
def half (i j : Fin n) : EReal := max (min (near D lab i) 0 - entry D lab i j) 0

open Classical in
/-- The textbook's loss of a pair. -/
def term (i j : Fin n) : EReal := if Valid D lab i j then max ((D i j : EReal) - hard D lab i + 1) 0 else 0

open Classical in
/-- The half-gap of a pair is half the distance beyond the nearest negative at a valid pair, zero elsewhere. -/
theorem half_eq (hD : ∀ i j, 0 ≤ D i j) (i j : Fin n) :
    half D lab i j = ((if Valid D lab i j then (D i j - (hard D lab i).toReal) / 2 else 0 : ℝ) : EReal) := by
  unfold half entry
  by_cases hp : lab i = lab j ∧ i ≠ j
  · rw [if_pos hp]
    rcases hard_cases D lab hD i with ⟨ht, hn⟩ | ⟨r, hr, _, ht, hn⟩
    · have hv : ¬ Valid D lab i j := fun h => by
        have := h.2.2; rw [ht] at this; exact absurd this (not_lt.2 le_top)
      rw [if_neg hv, hn, min_eq_left bot_le, EReal.bot_sub, max_eq_right bot_le, EReal.coe_zero]
    · have h0 : min (((-(r / 2) : ℝ)) : EReal) 0 = ((-(r / 2) : ℝ) : EReal) :=
        min_eq_left (by rw [← EReal.coe_zero]; exact EReal.coe_le_coe_iff.2 (by linarith))
      rw [hn, h0, ← EReal.coe_sub, ← EReal.coe_zero, ht, EReal.toReal_coe]
      by_cases hv : Valid D lab i j
      · have h1 : r < D i j := by have := hv.2.2; rw [ht] at this; exact EReal.coe_lt_coe_iff.1 this
        rw [if_pos hv, max_eq_left (EReal.coe_le_coe_iff.2 (by linarith))]
        congr 1; ring
      · have h1 : D i j ≤ r := by
          by_contra hc
          exact hv ⟨hp.1, hp.2, by rw [ht]; exact EReal.coe_lt_coe_iff.2 (not_le.1 hc)⟩
        rw [if_neg hv, max_eq_right (EReal.coe_le_coe_iff.2 (by linarith))]
  · have hv : ¬ Valid D lab i j := fun h => hp ⟨h.1, h.2.1⟩
    rw [if_neg hp, if_neg hv, EReal.sub_top, max_eq_right bot_le, EReal.coe_zero]

/-- The half-gap is positive exactly at the valid pairs. -/
theorem half_pos_iff (hD : ∀ i j, 0 ≤ D i j) (i j : Fin n) : 0 < half D lab i j ↔ Valid D lab i j := by
  rw [half_eq D lab hD, ← EReal.coe_zero, EReal.coe_lt_coe_iff]
  by_cases hv : Valid D lab i j
  · rw [if_pos hv]
    rcases hard_cases D lab hD i with ⟨ht, hn⟩ | ⟨r, hr, _, ht, hn⟩
    · have := hv.2.2; rw [ht] at this; exact absurd this (not_lt.2 le_top)
    · have h1 : r < D i j := by have := hv.2.2; rw [ht] at this; exact EReal.coe_lt_coe_iff.1 this
      rw [ht, EReal.toReal_coe]
      exact ⟨fun _ => hv, fun _ => by linarith⟩
  · rw [if_neg hv]
    exact ⟨fun h => absurd h (lt_irrefl _), fun h => absurd h hv⟩

open Classical in
/-- The loss of a pair is the distance beyond the nearest negative plus one at a valid pair, zero elsewhere. -/
theorem term_eq (hD : ∀ i j, 0 ≤ D i j) (i j : Fin n) :
    term D lab i j = ((if Valid D lab i j then (D i j - (hard D lab i).toReal) + 1 else 0 : ℝ) : EReal) := by
  unfold term
  by_cases hv : Valid D lab i j
  · rw [if_pos hv, if_pos hv]
    rcases hard_cases D lab hD i with ⟨ht, hn⟩ | ⟨r, hr, _, ht, hn⟩
    · have := hv.2.2; rw [ht] at this; exact absurd this (not_lt.2 le_top)
    · have h1 : r < D i j := by have := hv.2.2; rw [ht] at this; exact EReal.coe_lt_coe_iff.1 this
      rw [ht, EReal.toReal_coe, ← EReal.coe_sub, ← EReal.coe_one, ← EReal.coe_add, ← EReal.coe_zero,
        max_eq_left (EReal.coe_le_coe_iff.2 (by linarith))]
  · rw [if_neg hv, if_neg hv, EReal.coe_zero]

/-! ## The sums -/

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

open Classical in
/-- The kernel's column of ones and zeros adds up to the number of the anchor's valid pairs. -/
theorem sum_ind (hD : ∀ i j, 0 ≤ D i j) (i : Fin n) :
    (∑ j, if 0 < half D lab i j then (1 : EReal) else 0) = ((cnt D lab i : ℝ) : EReal) := by
  have h : ∀ j, (if 0 < half D lab i j then (1 : EReal) else 0) = ((if Valid D lab i j then 1 else 0 : ℝ) : EReal) := by
    intro j
    by_cases hv : Valid D lab i j
    · rw [if_pos ((half_pos_iff D lab hD i j).2 hv), if_pos hv, EReal.coe_one]
    · rw [if_neg (fun h => hv ((half_pos_iff D lab hD i j).1 h)), if_neg hv, EReal.coe_zero]
  rw [Finset.sum_congr rfl fun j _ => h j, ← coe_sum, Finset.sum_boole]
  rfl

open Classical in
/-- The number of an anchor's valid pairs as a sum of ones. -/
theorem cnt_eq_sum (i : Fin n) : cnt D lab i = ∑ j, if Valid D lab i j then 1 else 0 := by
  rw [Finset.sum_boole]; rfl

/-- An anchor has at most as many valid pairs as there are rows. -/
theorem cnt_le (i : Fin n) : cnt D lab i ≤ n := by
  classical
  exact (Finset.card_le_univ _).trans (by simp)

/-- There are at most `n²` valid pairs. -/
theorem count_le : count D lab ≤ n * n := by
  unfold count
  refine (Finset.sum_le_sum fun i _ => cnt_le D lab i).trans ?_
  simp

/-- The loss over all pairs is twice the sum of the half-gaps plus the number of valid pairs. -/
theorem sum_term (hD : ∀ i j, 0 ≤ D i j) :
    (∑ i, ∑ j, term D lab i j) = 2 * (∑ i, ∑ j, half D lab i j) + ((count D lab : ℝ) : EReal) := by
  classical
  simp only [term_eq D lab hD, half_eq D lab hD, ← coe_sum]
  rw [show (2 : EReal) = ((2 : ℝ) : EReal) by norm_cast, ← EReal.coe_mul, ← EReal.coe_add]
  congr 1
  unfold count
  push_cast
  rw [Finset.mul_sum, ← Finset.sum_add_distrib]
  refine Finset.sum_congr rfl fun i _ => ?_
  rw [cnt_eq_sum]
  push_cast
  rw [Finset.mul_sum, ← Finset.sum_add_distrib]
  refine Finset.sum_congr rfl fun j _ => ?_
  split_ifs <;> ring

end

/-! ## Counts as words -/

/-- A fold by word addition of words of natural numbers is the word of their sum. -/
theorem fold_addi {ι : Type*} (s : Finset ι) (g : ι → ℕ) :
    s.fold IntOp.addi (0#32) (fun i => BitVec.ofNat 32 (g i)) = BitVec.ofNat 32 (∑ i ∈ s, g i) := by
  classical
  induction s using Finset.induction_on with
  | empty => rfl
  | insert a s ha ih =>
    rw [Finset.fold_insert ha, ih, Finset.sum_insert ha, BitVec.ofNat_add]; rfl

/-- Converting a natural number below `2^31`, held as a real, to a signed word gives the number's word. -/
theorem fptosi_nat (k : ℕ) (hk : k < 2 ^ 31) : Ideal.fptosi 32 ((k : ℝ) : EReal) = BitVec.ofNat 32 k := by
  unfold Ideal.fptosi
  rw [Ideal.toIntClamped_coe, if_pos (Nat.cast_nonneg k), Int.floor_natCast]
  have h : max (-((2 ^ (32 - 1) : ℕ) : ℤ)) (min (((2 ^ (32 - 1) : ℕ) : ℤ) - 1) (k : ℤ)) = (k : ℤ) := by
    norm_num; omega
  rw [h]
  exact BitVec.ofInt_natCast ..

/-- Reading the word of a natural number below `2^31` as a signed number gives the number back. -/
theorem toInt_ofNat (k : ℕ) (hk : k < 2 ^ 31) : (BitVec.ofNat 32 k).toInt = (k : ℤ) := by
  rw [BitVec.toInt_eq_toNat_of_lt]
  · rw [BitVec.toNat_ofNat, Nat.mod_eq_of_lt (by omega)]
  · rw [BitVec.toNat_ofNat, Nat.mod_eq_of_lt (by omega)]; omega

/-! ## One-bit words as propositions -/

open Classical in
/-- The one-bit word of a proposition. -/
def bit (p : Prop) : BitVec 1 := if p then 1#1 else 0#1

/-- Equivalent propositions have one bit. -/
theorem bit_congr {p q : Prop} (h : p ↔ q) : bit p = bit q := by rw [propext h]

/-- An equality comparison of words is the bit of the equality. -/
theorem cmpi_eq {w : ℕ} (x y : BitVec w) : IntOp.cmpi .eq x y = bit (x = y) := by
  unfold IntOp.cmpi bit
  by_cases h : x = y
  · simp [h]
  · rw [if_neg h]
    show BitVec.ofBool (x == y) = 0#1
    rw [beq_eq_false_iff_ne.2 h]; rfl

/-- The complement of a bit is the bit of the negation. -/
theorem not_bit (p : Prop) : ~~~(bit p) = bit (¬p) := by
  unfold bit
  by_cases h : p
  · simp [h]
  · simp [h]

/-- The conjunction of two bits is the bit of the conjunction. -/
theorem andi_bit (p q : Prop) : IntOp.andi (bit p) (bit q) = bit (p ∧ q) := by
  unfold bit IntOp.andi
  by_cases h : p <;> by_cases h' : q <;> simp [h, h']

open Classical in
/-- A select on a bit is the `if` on its proposition. -/
theorem select_bit {α : Type} (p : Prop) (a b : α) : Scalar.select (bit p) a b = if p then a else b := by
  unfold bit Scalar.select
  by_cases h : p <;> simp [h]

/-- A "less than" comparison of extended reals is its bit … -/
theorem cmp_olt (a b : EReal) : Ideal.cmp .olt a b = bit (a < b) := by
  unfold Ideal.cmp bit
  by_cases h : a < b <;> simp [h]

/-- … and so is a "greater than" comparison. -/
theorem cmp_ogt (a b : EReal) : Ideal.cmp .ogt a b = bit (b < a) := by
  unfold Ideal.cmp bit
  by_cases h : b < a <;> simp [h]

open Classical in
/-- A bit widened to a word is the word of one or zero. -/
theorem setWidth_bit (p : Prop) : (bit p).setWidth 32 = BitVec.ofNat 32 (if p then 1 else 0) := by
  unfold bit
  by_cases h : p <;> simp [h]

/-- Row numbers below `2^32` are equal as words exactly when they are equal. -/
theorem ofNat_inj {a b : ℕ} (ha : a < 2 ^ 32) (hb : b < 2 ^ 32) : BitVec.ofNat 32 a = BitVec.ofNat 32 b ↔ a = b := by
  refine ⟨fun h => ?_, fun h => by rw [h]⟩
  have := congrArg BitVec.toNat h
  rwa [BitVec.toNat_ofNat, BitVec.toNat_ofNat, Nat.mod_eq_of_lt ha, Nat.mod_eq_of_lt hb] at this

/-- A fold by `or` from zero that meets a one is one. -/
theorem fold_ori {ι : Type*} (s : Finset ι) (f : ι → BitVec 1) {j : ι} (hj : j ∈ s) (h : f j = 1#1) :
    s.fold IntOp.ori (0#1) f = 1#1 := by
  classical
  rw [← Finset.insert_erase hj, Finset.fold_insert (Finset.notMem_erase j s), h]
  generalize (s.erase j).fold IntOp.ori (0#1) f = b
  rcases BitVec.eq_zero_or_eq_one b with rfl | rfl <;> rfl

/-! ## Float constants -/

/-- The pattern of `2`. -/
theorem two_f32 : Ideal.ofBits .f32 0x40000000#32 = 2 := by
  simp [Ideal.ofBits, Ideal.ieee, -EReal.coe_mul]; norm_num
  norm_cast
/-- The pattern of `1`. -/
theorem one_f32 : Ideal.ofBits .f32 0x3F800000#32 = 1 := by
  simp [Ideal.ofBits, Ideal.ieee, -EReal.coe_mul]; norm_num
/-- The pattern of `−1/2`. -/
theorem neg_half_f32 : Ideal.ofBits .f32 0xBF000000#32 = ((-(1 / 2) : ℝ) : EReal) := by
  simp [Ideal.ofBits, Ideal.ieee, -EReal.coe_mul]; norm_num
/-- The pattern of `+∞`. -/
theorem top_f32 : Ideal.ofBits .f32 0x7F800000#32 = ⊤ := by
  simp [Ideal.ofBits, Ideal.ieee]
/-- The pattern of `−∞`. -/
theorem bot_f32 : Ideal.ofBits .f32 0xFF800000#32 = ⊥ := by
  simp [Ideal.ofBits, Ideal.ieee]

end Mining

end
-- ==== Proof.RefValue.lean ====
/-  What the reference computes: its two results read down to the embeddings and the labels. Where the embeddings are the
    reals `x`, the distance matrix is `Mining.dist x`, the row minimum over the negatives is `Mining.hard`, the mask of a
    pair is the bit of `Mining.Valid`, the count is the word of `Mining.count`, and the sum is the sum of `Mining.term`. -/
module

public import proofs.«01_k».proof.Proof.Mining
public import proofs.«01_k».proof.Proof.Gen.ReferenceIdeal.Read
public import Idealize.ShloMosaic.PureOps.Reduce

@[expose] public section

noncomputable section

open scoped BigOperators

namespace RefValue

open Idealize.ShloMosaic Idealize.ShloMosaic.ValueIdx Cert.ReferenceIdeal Cert.ReferenceIdeal.Gen Cert.ReferenceIdeal.Read

variable (x0 : (⟨S8192x128, .f32⟩ : BufTy).Contents (Elt Ideal)) (x1 : (⟨S8192, .i32⟩ : BufTy).Contents (Elt Ideal))
variable (x : Fin 8192 → Fin 128 → ℝ)

/-- The label of a row. -/
abbrev lab (i : Fin 8192) : BitVec 32 := x1 (ix1 i)

section
variable (hx : ∀ i k, x0 (ix2 i k) = (x i k : EReal))
include hx

/-- A row's squared norm. -/
theorem sq_at (i : Fin 8192) : val_main_v1 (F := Ideal) x0 (ix1 i) = ((Mining.dot x i i : ℝ) : EReal) := by
  rw [val_main_v1_apply, val_main_cst_apply]
  show Ideal.ofBits .f32 0x00000000#32 + _ = _
  rw [Ideal.ofBits_zero_f32, zero_add]
  unfold Mining.dot
  rw [Mining.coe_sum]
  refine Finset.sum_congr rfl fun k _ => ?_
  have e : idx_main_v1 (ix1 i) k = ix2 i k := eq_ix2 _
  rw [e, val_main_v0_apply]
  show x0 (ix2 i k) * x0 (ix2 i k) = _
  rw [hx, EReal.coe_mul]

/-- The dot product of two rows. -/
theorem dot_at (i j : Fin 8192) : val_main_v8 (F := Ideal) x0 (ix2 i j) = ((Mining.dot x i j : ℝ) : EReal) := by
  rw [val_main_v8_apply]
  unfold Mining.dot
  rw [Mining.coe_sum]
  refine Finset.sum_congr rfl fun k _ => ?_
  have e : lidx_main_v8 (ix2 i j) k = ix2 i k := eq_ix2 _
  have e' : idx_main_v7 (ridx_main_v8 (ix2 i j) k) = ix2 j k := eq_ix2 _
  rw [val_main_v7_apply, e, e', hx, hx, EReal.coe_mul]

/-- The distance matrix before its diagonal is cleared. -/
theorem pre_at (i j : Fin 8192) : val_main_v13 (F := Ideal) x0 (ix2 i j) = ((Mining.dist x i j : ℝ) : EReal) := by
  rw [val_main_v13_apply, val_main_v11_apply, val_main_v6_apply, val_main_v10_apply, val_main_v4_apply, val_main_v2_apply,
    val_main_v5_apply, val_main_v3_apply, val_main_v2_apply, val_main_v9_apply, val_main_cst_0_apply, val_main_v12_apply,
    val_main_cst_1_apply, dot_at x0 x hx]
  have e : idx_main_v2 (idx_main_v4 (ix2 i j)) = ix1 i := eq_ix1 _
  have e' : idx_main_v2 (idx_main_v3 (idx_main_v5 (ix2 i j))) = ix1 j := eq_ix1 _
  rw [e, e', sq_at x0 x hx, sq_at x0 x hx]
  show max ((_ + _) - Ideal.ofBits .f32 0x40000000#32 * _) (Ideal.ofBits .f32 0x00000000#32) = _
  rw [Mining.two_f32, Ideal.ofBits_zero_f32, show (2 : EReal) = ((2 : ℝ) : EReal) by norm_cast, ← EReal.coe_mul,
    ← EReal.coe_add, ← EReal.coe_sub, ← Mining.dist_eq]
  exact max_eq_left (by rw [← EReal.coe_zero]; exact EReal.coe_le_coe_iff.2 (Mining.dist_nonneg x i j))

end

/-- The diagonal mask. -/
theorem diag_at (i j : Fin 8192) : val_main_v18 (F := Ideal) (ix2 i j) = Mining.bit (i = j) := by
  rw [val_main_v18_apply, val_main_v17_apply, val_main_v14_apply, val_main_v15_apply, val_main_v16_apply, val_main_c_apply,
    Mining.cmpi_eq]
  refine Mining.bit_congr ?_
  show BitVec.ofNat 32 i.val + 0#32 = BitVec.ofNat 32 j.val ↔ _
  rw [BitVec.add_zero, Mining.ofNat_inj (by omega) (by omega)]
  exact Fin.ext_iff.symm

/-- The mask of two rows of one label. -/
theorem same_at (i j : Fin 8192) : val_main_v24 (F := Ideal) x1 (ix2 i j) = Mining.bit (lab x1 i = lab x1 j) := by
  rw [val_main_v24_apply, val_main_v22_apply, val_main_v20_apply, val_main_v23_apply, val_main_v21_apply, Mining.cmpi_eq]
  have e : idx_main_v20 (idx_main_v22 (ix2 i j)) = ix1 i := eq_ix1 _
  have e' : idx_main_v21 (idx_main_v23 (ix2 i j)) = ix1 j := eq_ix1 _
  rw [e, e']

section
variable (hx : ∀ i k, x0 (ix2 i k) = (x i k : EReal))
include hx

/-- The distance matrix. -/
theorem dist_at (i j : Fin 8192) : val_main_v19 (F := Ideal) x0 (ix2 i j) = ((Mining.dist x i j : ℝ) : EReal) := by
  classical
  rw [val_main_v19_apply, diag_at, Mining.select_bit, pre_at x0 x hx, val_main_call0_v0_apply, val_main_cst_2_apply]
  split_ifs with h
  · subst h
    show Ideal.ofBits .f32 0x00000000#32 = _
    rw [Mining.dist_self, Ideal.ofBits_zero_f32, EReal.coe_zero]
  · rfl

/-- The row minimum over the rows of another label. -/
theorem hard_at (i : Fin 8192) :
    val_main_v30 (F := Ideal) x0 x1 (ix1 i) = Mining.hard (Mining.dist x) (lab x1) i := by
  classical
  unfold val_main_v30
  rw [Host.reduce_eq_fold_single _ _ _ reducesTo_S8192x8192_S8192_d1 (by decide), val_main_cst_5_apply]
  show Finset.fold min (Ideal.ofBits .f32 0x7F800000#32) _ (Finset.univ : Finset (Fin 8192)) = _
  rw [Mining.top_f32]
  unfold Mining.hard Finset.inf
  refine Finset.fold_congr fun j _ => ?_
  have e : (Shape.Reduces.lift (s := S8192x8192) (a := 1) (t := S8192) (by decide) (ix1 i) j) = ix2 i j := eq_ix2 _
  show val_main_v29 (F := Ideal) x0 x1 _ = _
  rw [e, val_main_v29_apply, val_main_v27_apply, same_at, Mining.not_bit, Mining.select_bit, dist_at x0 x hx,
    val_main_call1_v0_apply, val_main_cst_4_apply,
    show (FloatOps.ofBits .f32 0x7F800000#32 : Ideal .f32) = ⊤ from Mining.top_f32]
  split_ifs <;> first | rfl | contradiction

end

/-- A row with a row of another label has the "has a negative" bit. -/
theorem has_at (i : Fin 8192) (h : ∃ j, lab x1 i ≠ lab x1 j) : val_main_v28 (F := Ideal) x1 (ix1 i) = 1#1 := by
  obtain ⟨j, hj⟩ := h
  unfold val_main_v28
  rw [Host.reduce_eq_fold_single _ _ _ reducesTo_S8192x8192_S8192_d1 (by decide), val_main_c_3_apply]
  refine Mining.fold_ori (j := (j : Fin 8192)) _ _ (Finset.mem_univ _) ?_
  have e : (Shape.Reduces.lift (s := S8192x8192) (a := 1) (t := S8192) (by decide) (ix1 i) j) = ix2 i j := eq_ix2 _
  show val_main_v27 (F := Ideal) x1 _ = _
  rw [e, val_main_v27_apply, same_at, Mining.not_bit]
  exact if_pos hj

section
variable (hx : ∀ i k, x0 (ix2 i k) = (x i k : EReal))
include hx

/-- The mask of the valid pairs. -/
theorem valid_at (i j : Fin 8192) :
    val_main_v37 (F := Ideal) x0 x1 (ix2 i j) = Mining.bit (Mining.Valid (Mining.dist x) (lab x1) i j) := by
  have e : idx_main_v31 (idx_main_v32 (ix2 i j)) = ix1 i := eq_ix1 _
  have e' : idx_main_v34 (idx_main_v35 (ix2 i j)) = ix1 i := eq_ix1 _
  rw [val_main_v37_apply, val_main_v33_apply, val_main_v26_apply, val_main_v25_apply, same_at, diag_at, Mining.not_bit,
    val_main_v32_apply, val_main_v31_apply, e, val_main_v36_apply, val_main_v35_apply, val_main_v34_apply, e',
    hard_at x0 x1 x hx, dist_at x0 x hx]
  show IntOp.andi _ (Ideal.cmp .olt _ _) = _
  rw [Mining.cmp_olt, Mining.andi_bit]
  by_cases hn : ∃ k, lab x1 i ≠ lab x1 k
  · rw [has_at x1 i hn, show (1#1 : BitVec 1) = Mining.bit True from (if_pos trivial).symm, Mining.andi_bit, Mining.andi_bit]
    refine Mining.bit_congr ?_
    exact ⟨fun h => ⟨h.1.1.1, h.1.1.2, h.2⟩, fun h => ⟨⟨⟨h.1, h.2.1⟩, trivial⟩, h.2.2⟩⟩
  · have hf : ¬ Mining.hard (Mining.dist x) (lab x1) i < ((Mining.dist x i j : ℝ) : EReal) := fun hlt => by
      rcases Mining.hard_cases (Mining.dist x) (lab x1) (Mining.dist_nonneg x) i with ⟨ht, _⟩ | ⟨_, _, he, _⟩
      · rw [ht] at hlt; exact absurd hlt (not_lt.2 le_top)
      · exact hn he
    rw [show Mining.bit (Mining.hard (Mining.dist x) (lab x1) i < ((Mining.dist x i j : ℝ) : EReal)) = 0#1 from if_neg hf,
      show Mining.bit (Mining.Valid (Mining.dist x) (lab x1) i j) = 0#1 from if_neg fun h => hf h.2.2]
    exact BitVec.and_zero

/-- The number of valid pairs, as the reference counts them. -/
theorem count_at : val_main_v46 (F := Ideal) x0 x1 ix0 = BitVec.ofNat 32 (Mining.count (Mining.dist x) (lab x1)) := by
  classical
  unfold val_main_v46
  rw [Host.reduce_eq_fold, Finset.filter_true_of_mem fun i _ => Subsingleton.elim _ _, val_main_c_8_apply]
  rw [Finset.fold_congr (g := fun i : S8192x8192.Idx =>
    BitVec.ofNat 32 (if Mining.Valid (Mining.dist x) (lab x1) (i 0) (i 1) then 1 else 0)) fun i _ => by
      obtain ⟨a, b, rfl⟩ : ∃ a b : Fin 8192, i = ix2 a b := ⟨_, _, eq_ix2 i⟩
      rw [val_main_v45_apply, valid_at x0 x1 x hx, Mining.setWidth_bit]]
  rw [Mining.fold_addi, sum_idx2]
  unfold Mining.count
  exact congrArg _ (Finset.sum_congr rfl fun i _ => (Mining.cnt_eq_sum _ _ i).symm)

/-- The sum of the losses, as the reference adds them up. -/
theorem total_at : val_main_v48 (F := Ideal) x0 x1 ix0 = ∑ i, ∑ j, Mining.term (Mining.dist x) (lab x1) i j := by
  classical
  rw [val_main_v48_apply, val_main_cst_10_apply]
  show Ideal.ofBits .f32 0x00000000#32 + _ = _
  rw [Ideal.ofBits_zero_f32, zero_add, sum_idx2]
  refine Finset.sum_congr rfl fun i _ => Finset.sum_congr rfl fun j _ => ?_
  have e : idx_main_v38 (idx_main_v39 (ix2 i j)) = ix1 i := eq_ix1 _
  rw [val_main_v47_apply, valid_at x0 x1 x hx, Mining.select_bit, val_main_v44_apply, val_main_v42_apply, val_main_v40_apply,
    dist_at x0 x hx, val_main_v39_apply, val_main_v38_apply, e, hard_at x0 x1 x hx, val_main_v41_apply, val_main_cst_6_apply,
    val_main_v43_apply, val_main_cst_7_apply, val_main_call2_v0_apply, val_main_cst_9_apply]
  show (if _ then max (_ - _ + Ideal.ofBits .f32 0x3F800000#32) (Ideal.ofBits .f32 0x00000000#32)
    else Ideal.ofBits .f32 0x00000000#32) = _
  rw [Mining.one_f32, Ideal.ofBits_zero_f32]
  rfl

end

end RefValue

end
-- ==== Proof.Block.lean ====
/-  The kernel's body at one grid point: each value the body stores, read at an index over the six blocks the body loads,
    and then the two output blocks of the point. Column `c` of the block is an anchor, row `j` a partner. -/
module

public import proofs.«01_k».proof.Proof.Mining
public import proofs.«01_k».proof.Proof.Gen.KernelIdeal.Frame
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.Tactic

@[expose] public section

noncomputable section

open scoped BigOperators

namespace Block

open Idealize.ShloMosaic Idealize.ShloMosaic.ValueIdx Idealize.ShloMosaic.TcCoe Idealize.SL.Sem Cert.KernelIdeal Cert.KernelIdeal.Gen

/-- A product that contracts the second axis of both operands and starts from zeros, read at an index: the sum of the
    products along the two rows. The hypotheses say what the product contracts. -/
theorem matmul_rows {p q n : ℕ} {φ₁ φ₂ : FTy} (d : DotDims ⟨2, ![p, n]⟩ ⟨2, ![q, n]⟩ ⟨2, ![p, q]⟩) (prec : Option ContractPrecision)
    (hr : d.contr.rank = 1) (hs : d.contr.size ⟨0, by omega⟩ = n) (hlc : d.lhsContracting = [1]) (hrc : d.rhsContracting = [1])
    (hl0 : ∀ i k, (d.lhsIdx i k 0).val = (i 0).val) (hr0 : ∀ i k, (d.rhsIdx i k 0).val = (i 1).val)
    (l : FVec Ideal ⟨2, ![p, n]⟩ φ₁) (r : FVec Ideal ⟨2, ![q, n]⟩ φ₂) (j : Fin p) (c : Fin q) :
    matmul d prec l r (constant ⟨2, ![p, q]⟩ .f32 0x00000000#32) (ix2 j c) = ∑ k, l (ix2 j k) * r (ix2 c k) := by
  simp only [matmul]
  rw [Ideal.matmul_constant_zero_apply, ← Equiv.sum_comp (contrEquiv1 d n hr hs).symm]
  refine Finset.sum_congr rfl fun k _ => ?_
  have hk := contrEquiv1_symm_val d n hr hs k
  have el : d.lhsIdx (ix2 j c) ((contrEquiv1 d n hr hs).symm k) = ix2 j k := funext fun ax => Fin.ext (by
    match ax with
    | ⟨0, _⟩ => exact hl0 _ _
    | ⟨1, _⟩ => exact (d.lhsIdx_val_of_single hlc _ _).trans hk)
  have er : d.rhsIdx (ix2 j c) ((contrEquiv1 d n hr hs).symm k) = ix2 c k := funext fun ax => Fin.ext (by
    match ax with
    | ⟨0, _⟩ => exact hr0 _ _
    | ⟨1, _⟩ => exact (d.rhsIdx_val_of_single hrc _ _).trans hk)
  rw [el, er]

/-- A column `[a, 1]` broadcast to `[a, b]` reads, at `(j, c)`, the column at `j`. -/
theorem broadcastTo_col {α : Type} {a b : ℕ} (v : (⟨2, ![a, 1]⟩ : Shape).Idx → α) (h : (⟨2, ![a, 1]⟩ : Shape).Broadcasts ⟨2, ![a, b]⟩)
    (j : Fin a) (c : Fin b) : broadcastTo ⟨2, ![a, b]⟩ v h (ix2 j c) = v (ix2 j (0 : Fin 1)) := by
  refine broadcastTo_apply v h (ix2 j c) (ix2 j (0 : Fin 1)) fun ax => ?_
  match ax with
  | ⟨0, _⟩ =>
    show j.val = if a = 1 then 0 else j.val
    split
    · have := j.isLt; omega
    · rfl
  | ⟨1, _⟩ => rfl

variable (e : Vec Ideal S8192x128 .bf16) (eb : Vec Ideal S256x128 .bf16) (a : Vec Ideal S8192x8 .bf16) (b : Vec Ideal S256x8 .bf16)
variable (l : Vec Ideal S8192x1 .i32) (lb : Vec Ideal S1x256 .i32)

/-- The block's value for partner `j` and anchor `c`: the two products' sum (minus half the squared distance, when the
    small operands carry the norms). -/
def pair (j : Fin 8192) (c : Fin 256) : EReal :=
  (∑ k : Fin 128, (e (ix2 j k) : EReal) * eb (ix2 c k)) + ∑ k : Fin 8, (a (ix2 j k) : EReal) * b (ix2 c k)

/-- Partner `j` and anchor `c` carry one label. -/
def Same (j : Fin 8192) (c : Fin 256) : Prop := l (ix2 j (0 : Fin 1)) = lb (ix2 (0 : Fin 1) c)

open Classical in
/-- The nearest negative of anchor `c`, as the block value, and not above zero. -/
def top (c : Fin 256) : EReal := min (Finset.univ.sup fun j => if Same l lb j c then ⊥ else pair e eb a b j c) 0

open Classical in
/-- What the scratch buffer ends with at point `t`: the block value on a positive pair, infinity elsewhere. -/
def scr (t : ℕ) (j : Fin 8192) (c : Fin 256) : EReal :=
  if Same l lb j c ∧ j.val ≠ 256 * t + c.val then pair e eb a b j c else ⊤

/-- Half the hinge loss of the pair, without its margin. -/
def hinge (t : ℕ) (j : Fin 8192) (c : Fin 256) : EReal := max (top e eb a b l lb c - scr e eb a b l lb t j c) 0

/-- The stored product sum. -/
theorem pay5_at (j : Fin 8192) (c : Fin 256) : k0_pay5 (F := Ideal) e eb a b (ix2 j c) = pair e eb a b j c := by
  unfold k0_pay5
  rw [addf_apply, shapeCast_self, shapeCast_self, shapeCast_self, shapeCast_self]
  refine congrArg₂ _ (matmul_rows dot_S8192x128_S256x128_S8192x256_1_1_0_0_n_n none rfl rfl rfl rfl (fun i k => ?_) (fun i k => ?_) e eb j c)
    (matmul_rows dot_S8192x8_S256x8_S8192x256_1_1_0_0_n_n none rfl rfl rfl rfl (fun i k => ?_) (fun i k => ?_) a b j c)
  · unfold DotDims.lhsIdx
    rw [dif_neg (show ¬(0 : Fin S8192x128.rank) ∈ dot_S8192x128_S256x128_S8192x256_1_1_0_0_n_n.lhsBatch by decide),
      dif_pos (show (0 : Fin S8192x128.rank) ∈ dot_S8192x128_S256x128_S8192x256_1_1_0_0_n_n.lhsNonContracting by decide)]
    rfl
  · unfold DotDims.rhsIdx
    rw [dif_neg (show ¬(0 : Fin S256x128.rank) ∈ dot_S8192x128_S256x128_S8192x256_1_1_0_0_n_n.rhsBatch by decide),
      dif_pos (show (0 : Fin S256x128.rank) ∈ dot_S8192x128_S256x128_S8192x256_1_1_0_0_n_n.rhsNonContracting by decide)]
    rfl
  · unfold DotDims.lhsIdx
    rw [dif_neg (show ¬(0 : Fin S8192x8.rank) ∈ dot_S8192x8_S256x8_S8192x256_1_1_0_0_n_n.lhsBatch by decide),
      dif_pos (show (0 : Fin S8192x8.rank) ∈ dot_S8192x8_S256x8_S8192x256_1_1_0_0_n_n.lhsNonContracting by decide)]
    rfl
  · unfold DotDims.rhsIdx
    rw [dif_neg (show ¬(0 : Fin S256x8.rank) ∈ dot_S8192x8_S256x8_S8192x256_1_1_0_0_n_n.rhsBatch by decide),
      dif_pos (show (0 : Fin S256x8.rank) ∈ dot_S8192x8_S256x8_S8192x256_1_1_0_0_n_n.rhsNonContracting by decide)]
    rfl

/-- The mask of pairs of one label. -/
theorem pay6_at (j : Fin 8192) (c : Fin 256) : k0_pay6 (F := Ideal) l lb (ix2 j c) = Mining.bit (Same l lb j c) := by
  unfold k0_pay6
  rw [shapeCast_self, shapeCast_self]
  show IntOp.cmpi .eq (broadcastTo S8192x256 l _ (ix2 j c)) (broadcastTo S8192x256 lb _ (ix2 j c)) = _
  rw [broadcastTo_col, broadcastTo_1b_ab_apply, Mining.cmpi_eq]
  rfl

open Classical in
/-- The first store to the scratch buffer: the block value where the labels agree, infinity elsewhere. -/
theorem pay7_at (j : Fin 8192) (c : Fin 256) :
    k0_pay7 (F := Ideal) e eb a b l lb (ix2 j c) = if Same l lb j c then pair e eb a b j c else ⊤ := by
  unfold k0_pay7
  rw [shapeCast_self, select_apply, pay6_at, Mining.select_bit, pay5_at]
  exact if_congr Iff.rfl rfl Mining.top_f32

/-- The anchors' row: the largest block value over the other labels, cut at zero. -/
theorem pay8_at (c : Fin 256) : k0_pay8 (F := Ideal) e eb a b l lb (ix2 (0 : Fin 1) c) = top e eb a b l lb c := by
  classical
  unfold k0_pay8
  rw [minimumf_apply, shapeCast_a_1a_apply]
  refine congrArg₂ min ((Ideal.multiReduction_maximumf_single _ _ _ _ _ _).trans ?_) Ideal.ofBits_zero_f32
  show Finset.fold max (Ideal.ofBits .f32 0xFF800000#32) _ (Finset.univ : Finset (Fin 8192)) = _
  rw [Mining.bot_f32]
  unfold Finset.sup
  refine Finset.fold_congr fun j _ => ?_
  show select _ _ _ (Shape.Reduces.lift (s := S8192x256) (a := 0) (t := S256) reduces_S8192x256_S256 (ix1 c) j) = _
  rw [show Shape.Reduces.lift (s := S8192x256) (a := 0) (t := S256) reduces_S8192x256_S256 (ix1 c) j = ix2 j c from eq_ix2 _,
    select_apply, pay6_at, Mining.select_bit, pay5_at]
  exact if_congr Iff.rfl Mining.bot_f32 rfl

/-- The diagonal mask of a square block. -/
theorem pay9_at (r c : Fin 256) : k0_pay9 (ix2 r c) = Mining.bit (r = c) := by
  unfold k0_pay9
  show IntOp.cmpi .eq (iota .tc S256x256 32 [0] _ (ix2 r c)) (iota .tc S256x256 32 [1] _ (ix2 r c)) = _
  rw [iota_single_apply, iota_single_apply, Mining.cmpi_eq]
  refine Mining.bit_congr ?_
  show BitVec.ofNat 32 r.val = BitVec.ofNat 32 c.val ↔ _
  rw [Mining.ofNat_inj (by omega) (by omega)]
  exact Fin.ext_iff.symm

/-- The hinge before it is summed, over the scratch contents `S` and the anchors' row `v`. -/
theorem pay2_at (v : FVec Ideal S1x256 .f32) (S : Vec Ideal S8192x256 .f32) (j : Fin 8192) (c : Fin 256) :
    k0_pay2 (F := Ideal) v S (ix2 j c) = max ((v (ix2 (0 : Fin 1) c) : EReal) - S (ix2 j c)) 0 := by
  unfold k0_pay2
  rw [maximumf_apply, subf_apply, broadcastTo_1b_ab_apply]
  exact congrArg (max _) Ideal.ofBits_zero_f32

/-- The first output: the hinges of each anchor summed over the partners. -/
theorem pay3_at (v : FVec Ideal S1x256 .f32) (S : Vec Ideal S8192x256 .f32) (c : Fin 256) :
    k0_pay3 (F := Ideal) v S (ix3 (0 : Fin 1) (0 : Fin 1) c) = ∑ j : Fin 8192, max ((v (ix2 (0 : Fin 1) c) : EReal) - S (ix2 j c)) 0 := by
  unfold k0_pay3
  rw [shapeCast_ab_1ab_apply, shapeCast_a_1a_apply]
  refine (Ideal.multiReduction_add_single _ _ _ _ _ _).trans ?_
  refine Finset.sum_congr rfl fun (j : Fin 8192) _ => ?_
  rw [show Shape.Reduces.lift (s := S8192x256) (a := 0) (t := S256) reduces_S8192x256_S256 (ix1 c) j = ix2 j c from eq_ix2 _, pay2_at]

open Classical in
/-- The second output: the number of partners with a positive hinge. -/
theorem pay4_at (v : FVec Ideal S1x256 .f32) (S : Vec Ideal S8192x256 .f32) (c : Fin 256) :
    k0_pay4 (F := Ideal) v S (ix3 (0 : Fin 1) (0 : Fin 1) c)
      = ∑ j : Fin 8192, if 0 < max ((v (ix2 (0 : Fin 1) c) : EReal) - S (ix2 j c)) 0 then (1 : EReal) else 0 := by
  unfold k0_pay4
  rw [shapeCast_ab_1ab_apply, shapeCast_a_1a_apply]
  refine (Ideal.multiReduction_add_single _ _ _ _ _ _).trans ?_
  refine Finset.sum_congr rfl fun (j : Fin 8192) _ => ?_
  rw [show Shape.Reduces.lift (s := S8192x256) (a := 0) (t := S256) reduces_S8192x256_S256 (ix1 c) j = ix2 j c from eq_ix2 _,
    select_apply, cmpf_apply, pay2_at]
  show Scalar.select (Ideal.cmp .ogt _ (Ideal.ofBits .f32 0x00000000#32)) (Ideal.ofBits .f32 0x3F800000#32) (Ideal.ofBits .f32 0x00000000#32) = _
  rw [Mining.cmp_ogt, Mining.select_bit, Ideal.ofBits_zero_f32, Mining.one_f32]
  split_ifs <;> rfl

/-- The off set of an all-zero access. -/
theorem hz2 : (![0, 0] : Fin 2 → Nat) = fun _ => 0 := funext fun ax => by fin_cases ax <;> rfl
/-- The same with three axes. -/
theorem hz3 : (![0, 0, 0] : Fin 3 → Nat) = fun _ => 0 := funext fun ax => by fin_cases ax <;> rfl

/-- The scratch buffer after its two stores, `P` the first: the 256 rows from `256·i` on are stored a second time, with
    infinity on their diagonal. -/
def stored (i : grid0.Coords) (P : Vec Ideal S8192x256 .f32) : Vec Ideal S8192x256 .f32 :=
  View.canon (Val := Elt Ideal) (e := .f32) [⟨Rect.unit (s := S8192x256) (k0_off1 i) S256x256.size (k0_off1_inb i),
      k0_pay1 (F := Ideal) (View.ld (Val := Elt Ideal) (e' := .f32) P (Rect.unit (s := S8192x256) (k0_off1 i) S256x256.size (k0_off1_inb i))) k0_pay9
        (Scalar.ofBits .f32 0x7F800000#32)⟩,
    ⟨Rect.unit (s := S8192x256) ![0, 0] S8192x256.size inb_S8192x256_S8192x256_0_0, P⟩]

/-- Read at an index: infinity where the partner is the anchor itself, the first store elsewhere. -/
theorem stored_at (i : grid0.Coords) (P : Vec Ideal S8192x256 .f32) (j : Fin 8192) (c : Fin 256) :
    stored i P (ix2 j c) = if j.val = 256 * (i 0).val + c.val then (⊤ : EReal) else P (ix2 j c) := by
  have h0 : k0_off1 i 0 = 256 * (i 0).val := congrFun (k0_off1_eq i) 0
  have h1 : k0_off1 i 1 = 0 := congrFun (k0_off1_eq i) 1
  unfold stored
  by_cases hj : 256 * (i 0).val ≤ j.val ∧ j.val < 256 * (i 0).val + 256
  · obtain ⟨r, hr⟩ : ∃ r : Fin 256, j.val = 256 * (i 0).val + r.val := ⟨⟨j.val - 256 * (i 0).val, by omega⟩, by show _ = _ + (_ - _); omega⟩
    have he : ix2 j c = (Rect.unit (s := S8192x256) (k0_off1 i) S256x256.size (k0_off1_inb i)).emb (ix2 r c) := funext fun ax => Fin.ext (by
      match ax with
      | ⟨0, _⟩ => show j.val = k0_off1 i 0 + 1 * r.val; rw [h0]; omega
      | ⟨1, _⟩ => show c.val = k0_off1 i 1 + 1 * c.val; rw [h1]; omega)
    rw [he, View.canon_cons_emb]
    unfold k0_pay1
    rw [shapeCast_self, select_apply, pay9_at, Mining.select_bit]
    by_cases h : r = c
    · rw [if_pos h, if_pos (by rw [hr, h])]; exact Mining.top_f32
    · rw [if_neg h, if_neg (by rw [hr]; have := mt Fin.ext h; omega)]; rfl
  · rw [View.canon_cons_of_not_mem, View.canon_unit_zero hz2, if_neg (by omega)]
    rw [Rect.mem_set_unit]
    intro h
    have h := h 0
    rw [h0] at h
    exact hj h

section
variable (c : Dev nD) (i : grid0.Coords) (arg1 : Memref sig .tc .vmem S8192x128 .bf16) (harg1 : arg1.IsWhole) (arg2 : Memref sig .tc .vmem S256x128 .bf16) (harg2 : arg2.IsWhole)
  (arg3 : Memref sig .tc .vmem S8192x8 .bf16) (harg3 : arg3.IsWhole) (arg4 : Memref sig .tc .vmem S256x8 .bf16) (harg4 : arg4.IsWhole) (arg5 : Memref sig .tc .vmem S8192x1 .i32) (harg5 : arg5.IsWhole)
  (arg6 : Memref sig .tc .vmem S1x256 .i32) (harg6 : arg6.IsWhole) (arg7 : Memref sig .tc .vmem S1x1x256 .f32) (harg7 : arg7.IsWhole) (arg8 : Memref sig .tc .vmem S1x1x256 .f32) (harg8 : arg8.IsWhole)
  (arg9 : Memref sig .tc .vmem S8192x256 .f32) (harg9 : arg9.IsWhole)

/-- The first output block. -/
theorem out6 : out0_A_6 (F := Ideal) c i arg1 harg1 arg2 harg2 arg3 harg3 arg4 harg4 arg5 harg5 arg6 harg6 arg7 harg7 arg8 harg8 arg9 harg9 e eb a b l lb = k0_pay3 (k0_pay8 e eb a b l lb) (stored i (k0_pay7 e eb a b l lb)) := by
  unfold out0_A_6
  rw [View.read_writes_eq_canon _ _ _ (cover0_A_6 c i arg1 harg1 arg2 harg2 arg3 harg3 arg4 harg4 arg5 harg5 arg6 harg6 arg7 harg7 arg8 harg8 arg9 harg9 e eb a b l lb)]
  unfold kernelRun0_A
  dsimp only
  sl_unfold_words
  rw [View.canon_unit_zero hz3]
  simp only [View.readCov_eq_canon', View.readAt_eq_ld, View.read_writes_junk_eq_canon, View.canon_unit_zero (S := S8192x256) hz2, harg1.read_unread, harg2.read_unread, harg3.read_unread, harg4.read_unread, harg5.read_unread, harg6.read_unread]
  rw [View.ld_unit_zero (S := S8192x128) hz2, View.ld_unit_zero (S := S256x128) hz2, View.ld_unit_zero (S := S8192x8) hz2,
    View.ld_unit_zero (S := S256x8) hz2, View.ld_unit_zero (S := S8192x1) hz2, View.ld_unit_zero (S := S1x256) hz2]
  exact congrArg _ (View.ld_unit_zero (S := S8192x256) hz2 _ _)

/-- The second output block. -/
theorem out7 : out0_A_7 (F := Ideal) c i arg1 harg1 arg2 harg2 arg3 harg3 arg4 harg4 arg5 harg5 arg6 harg6 arg7 harg7 arg8 harg8 arg9 harg9 e eb a b l lb = k0_pay4 (k0_pay8 e eb a b l lb) (stored i (k0_pay7 e eb a b l lb)) := by
  unfold out0_A_7
  rw [View.read_writes_eq_canon _ _ _ (cover0_A_7 c i arg1 harg1 arg2 harg2 arg3 harg3 arg4 harg4 arg5 harg5 arg6 harg6 arg7 harg7 arg8 harg8 arg9 harg9 e eb a b l lb)]
  unfold kernelRun0_A
  dsimp only
  sl_unfold_words
  rw [View.canon_unit_zero hz3]
  simp only [View.readCov_eq_canon', View.readAt_eq_ld, View.read_writes_junk_eq_canon, View.canon_unit_zero (S := S8192x256) hz2, harg1.read_unread, harg2.read_unread, harg3.read_unread, harg4.read_unread, harg5.read_unread, harg6.read_unread]
  rw [View.ld_unit_zero (S := S8192x128) hz2, View.ld_unit_zero (S := S256x128) hz2, View.ld_unit_zero (S := S8192x8) hz2,
    View.ld_unit_zero (S := S256x8) hz2, View.ld_unit_zero (S := S8192x1) hz2, View.ld_unit_zero (S := S1x256) hz2]
  exact congrArg _ (View.ld_unit_zero (S := S8192x256) hz2 _ _)

end

/-- The hinge the body computes. -/
theorem hinge_at (i : grid0.Coords) (j : Fin 8192) (c : Fin 256) :
    max ((k0_pay8 (F := Ideal) e eb a b l lb (ix2 (0 : Fin 1) c) : EReal) - stored i (k0_pay7 e eb a b l lb) (ix2 j c)) 0
      = hinge e eb a b l lb (i 0).val j c := by
  unfold hinge
  rw [pay8_at, stored_at, pay7_at]
  unfold scr
  congr 2
  by_cases hs : Same l lb j c <;> by_cases hj : j.val = 256 * (i 0).val + c.val <;> simp [hs, hj]

variable (m : (ℓ : Loc nD τ sig) → Buf (Elt Ideal) ℓ)

/-- The first output block of point `t`: each anchor's hinges summed over the partners. -/
theorem outs_fst (d : Dev nD) (t : Fin cfg0.N) (c : Fin 256) : (outsAt0 m d t).1 (ix3 (0 : Fin 1) (0 : Fin 1) c)
    = ∑ j : Fin 8192, hinge (iblk m d 0 t) (iblk m d 1 t) (iblk m d 2 t) (iblk m d 3 t) (iblk m d 4 t) (iblk m d 5 t)
        (grid0.coords t 0).val j c := by
  unfold outsAt0
  dsimp only
  rw [out6, pay3_at]
  exact Finset.sum_congr rfl fun j _ => hinge_at _ _ _ _ _ _ _ _ _

open Classical in
/-- The second output block of point `t`: each anchor's number of partners with a positive hinge. -/
theorem outs_snd (d : Dev nD) (t : Fin cfg0.N) (c : Fin 256) : (outsAt0 m d t).2 (ix3 (0 : Fin 1) (0 : Fin 1) c)
    = ∑ j : Fin 8192, if 0 < hinge (iblk m d 0 t) (iblk m d 1 t) (iblk m d 2 t) (iblk m d 3 t) (iblk m d 4 t) (iblk m d 5 t)
        (grid0.coords t 0).val j c then (1 : EReal) else 0 := by
  unfold outsAt0
  dsimp only
  rw [out7, pay4_at]
  exact Finset.sum_congr rfl fun j _ => by rw [hinge_at]

end Block
-- ==== Proof.Inputs.lean ====
/-  What the kernel's region is entered with and what each grid point loads: the six arrays the host operations before the
    region leave, read at an index, and the blocks of them at a point. Where the embeddings are the reals `x`, the block value
    of a pair is minus half its squared distance, so the hinge of the block is `Mining.half`. -/
module

public import proofs.«01_k».proof.Proof.Block
public import Idealize.ShloMosaic.Lib.StableHlo.Run

@[expose] public section

noncomputable section

open scoped BigOperators

namespace Inputs

open Idealize.ShloMosaic Idealize.ShloMosaic.ValueIdx Idealize.ShloMosaic.TcCoe Idealize.SL.Sem Cert.KernelIdeal Cert.KernelIdeal.Gen

/-! ## The host operations before the region -/

/-- Minus half the squared norm of each row, as a column. -/
def nrm (x0 : FVec Ideal S8192x128 .f32) : FVec Ideal S8192x1 .f32 :=
  mulf (broadcastInDim S8192x1 ![] bcast_S_S8192x1 (constant (F := Ideal) S_ .f32 0xBF000000#32))
    (broadcastInDim S8192x1 ![0] bcast_S8192_S8192x1_0
      (Host.reduceAdd (mulf x0 x0) (constant (F := Ideal) S_ .f32 0x00000000#32) reducesTo_S8192x128_S8192_d1 h_S_))

/-- A column of ones. -/
def ones : FVec Ideal S8192x1 .f32 := broadcastInDim S8192x1 ![] bcast_S_S8192x1 (constant (F := Ideal) S_ .f32 0x3F800000#32)

/-- Four columns of zeros. -/
def zeros : FVec Ideal S8192x4 .f32 := broadcastInDim S8192x4 ![] bcast_S_S8192x4 (constant (F := Ideal) S_ .f32 0x00000000#32)

/-- Five pieces side by side: four columns and four columns more. -/
def cat (p q r s : FVec Ideal S8192x1 .f32) (z : FVec Ideal S8192x4 .f32) : FVec Ideal S8192x8 .f32 :=
  concatenate S8192x8 1 [⟨S8192x1, p⟩, ⟨S8192x1, q⟩, ⟨S8192x1, r⟩, ⟨S8192x1, s⟩, ⟨S8192x4, z⟩]
    concatenates_S8192x1_S8192x1_S8192x1_S8192x1_S8192x4_S8192x8_d1

/-- Minus half the squared norms after their rounding, -/
def hi (x0 : FVec Ideal S8192x128 .f32) : FVec Ideal S8192x1 .f32 := extf .f32 (truncf .bf16 (nrm x0) bitsLt_bf16_f32) bitsLt_bf16_f32

/-- and what the rounding left over. -/
def lo (x0 : FVec Ideal S8192x128 .f32) : FVec Ideal S8192x1 .f32 := subf (nrm x0) (hi x0)

variable (m : (ℓ : Loc nD τ sig) → Buf (Elt Ideal) ℓ) (d : Dev nD)

/-- The embeddings the program is given. -/
abbrev emb : FVec Ideal S8192x128 .f32 := m ((d.tc : Thread nD τ).loc main_arg0)

/-- The labels the program is given. -/
abbrev labs : IVec S8192 32 := m ((d.tc : Thread nD τ).loc main_arg1)

/-- The region is entered with the embeddings, rounded; -/
theorem V_v0 : (V m d main_v0 : FVec Ideal S8192x128 .bf16) = truncf .bf16 (emb m d) bitsLt_bf16_f32 := by
  show StableHlo.after hostOps0 _ (Proc.devRef .tc main_v0) = _
  after_results

/-- with the partners' columns: minus half the squared norm rounded, what the rounding left over, one, one, and zeros; -/
theorem V_v12 : (V m d main_v12 : FVec Ideal S8192x8 .bf16)
    = truncf .bf16 (cat (hi (emb m d)) (lo (emb m d)) ones ones zeros) bitsLt_bf16_f32 := by
  show StableHlo.after hostOps0 _ (Proc.devRef .tc main_v12) = _
  after_results
  rfl

/-- with the anchors' columns: one, one, minus half the squared norm rounded, what was left over, and zeros; -/
theorem V_v14 : (V m d main_v14 : FVec Ideal S8192x8 .bf16)
    = truncf .bf16 (cat ones ones (hi (emb m d)) (lo (emb m d)) zeros) bitsLt_bf16_f32 := by
  show StableHlo.after hostOps0 _ (Proc.devRef .tc main_v14) = _
  after_results
  rfl

/-- with the labels as a column; -/
theorem V_v15 : (V m d main_v15 : IVec S8192x1 32) = shapeCast S8192x1 (labs m d) shapeCasts_S8192_S8192x1 := by
  show StableHlo.after hostOps0 _ (Proc.devRef .tc main_v15) = _
  after_results
  rfl

/-- and with the labels as a row. -/
theorem V_v16 : (V m d main_v16 : IVec S1x8192 32) = shapeCast S1x8192 (labs m d) shapeCasts_S8192_S1x8192 := by
  show StableHlo.after hostOps0 _ (Proc.devRef .tc main_v16) = _
  after_results
  rfl

/-! ## The blocks of a point -/

/-- The row that column `c` of point `t`'s block stands for. -/
def anchor (t : Fin cfg0.N) (c : Fin 256) : Fin 8192 := ⟨256 * t.val + c.val, by have := t.isLt; have h : cfg0.N = 32 := N_0; omega⟩

/-- Which block each point takes of each input: the embeddings whole, -/
theorem idx0 : ∀ t : Fin cfg0.N, win0_0.index t 0 = 0 ∧ win0_0.index t 1 = 0 := by decide +kernel
/-- their rows of 256, -/
theorem idx1 : ∀ t : Fin cfg0.N, win0_1.index t 0 = t.val ∧ win0_1.index t 1 = 0 := by decide +kernel
/-- the partners' columns whole, -/
theorem idx2 : ∀ t : Fin cfg0.N, win0_2.index t 0 = 0 ∧ win0_2.index t 1 = 0 := by decide +kernel
/-- the anchors' rows of 256, -/
theorem idx3 : ∀ t : Fin cfg0.N, win0_3.index t 0 = t.val ∧ win0_3.index t 1 = 0 := by decide +kernel
/-- the column of labels whole, -/
theorem idx4 : ∀ t : Fin cfg0.N, win0_4.index t 0 = 0 ∧ win0_4.index t 1 = 0 := by decide +kernel
/-- and 256 labels of the row. -/
theorem idx5 : ∀ t : Fin cfg0.N, win0_5.index t 0 = 0 ∧ win0_5.index t 1 = t.val := by decide +kernel
/-- The one grid coordinate is the point. -/
theorem coord : ∀ t : Fin cfg0.N, (grid0.coords t 0).val = t.val := by decide +kernel

/-- The first block point `t` loads. -/
abbrev b0 (t : Fin cfg0.N) : Vec Ideal S8192x128 .bf16 := iblk m d 0 t
/-- The second block point `t` loads. -/
abbrev b1 (t : Fin cfg0.N) : Vec Ideal S256x128 .bf16 := iblk m d 1 t
/-- The third block point `t` loads. -/
abbrev b2 (t : Fin cfg0.N) : Vec Ideal S8192x8 .bf16 := iblk m d 2 t
/-- The fourth block point `t` loads. -/
abbrev b3 (t : Fin cfg0.N) : Vec Ideal S256x8 .bf16 := iblk m d 3 t
/-- The fifth block point `t` loads. -/
abbrev b4 (t : Fin cfg0.N) : Vec Ideal S8192x1 .i32 := iblk m d 4 t
/-- The sixth block point `t` loads. -/
abbrev b5 (t : Fin cfg0.N) : Vec Ideal S1x256 .i32 := iblk m d 5 t

/-- The first block is the rounded embeddings, -/
theorem blk0 (t : Fin cfg0.N) (j : Fin 8192) (k : Fin 128) : b0 m d t (ix2 j k) = (V m d main_v0 : FVec Ideal S8192x128 .bf16) (ix2 j k) := by
  unfold b0 iblk
  rw [View.read_apply]
  show V m d main_v0 _ = _
  congr 1
  funext ax
  apply Fin.ext
  match ax with
  | ⟨0, _⟩ => show win0_0.index t 0 * 8192 + 1 * j.val = j.val; rw [(idx0 t).1]; omega
  | ⟨1, _⟩ => show win0_0.index t 1 * 128 + 1 * k.val = k.val; rw [(idx0 t).2]; omega

/-- the second their rows at the anchors, -/
theorem blk1 (t : Fin cfg0.N) (c : Fin 256) (k : Fin 128) : b1 m d t (ix2 c k) = (V m d main_v0 : FVec Ideal S8192x128 .bf16) (ix2 (anchor t c) k) := by
  unfold b1 iblk
  rw [View.read_apply]
  show V m d main_v0 _ = _
  congr 1
  funext ax
  apply Fin.ext
  match ax with
  | ⟨0, _⟩ => show win0_1.index t 0 * 256 + 1 * c.val = 256 * t.val + c.val; rw [(idx1 t).1]; omega
  | ⟨1, _⟩ => show win0_1.index t 1 * 128 + 1 * k.val = k.val; rw [(idx1 t).2]; omega

/-- the third the partners' columns, -/
theorem blk2 (t : Fin cfg0.N) (j : Fin 8192) (k : Fin 8) : b2 m d t (ix2 j k) = (V m d main_v12 : FVec Ideal S8192x8 .bf16) (ix2 j k) := by
  unfold b2 iblk
  rw [View.read_apply]
  show V m d main_v12 _ = _
  congr 1
  funext ax
  apply Fin.ext
  match ax with
  | ⟨0, _⟩ => show win0_2.index t 0 * 8192 + 1 * j.val = j.val; rw [(idx2 t).1]; omega
  | ⟨1, _⟩ => show win0_2.index t 1 * 8 + 1 * k.val = k.val; rw [(idx2 t).2]; omega

/-- the fourth the anchors' columns, -/
theorem blk3 (t : Fin cfg0.N) (c : Fin 256) (k : Fin 8) : b3 m d t (ix2 c k) = (V m d main_v14 : FVec Ideal S8192x8 .bf16) (ix2 (anchor t c) k) := by
  unfold b3 iblk
  rw [View.read_apply]
  show V m d main_v14 _ = _
  congr 1
  funext ax
  apply Fin.ext
  match ax with
  | ⟨0, _⟩ => show win0_3.index t 0 * 256 + 1 * c.val = 256 * t.val + c.val; rw [(idx3 t).1]; omega
  | ⟨1, _⟩ => show win0_3.index t 1 * 8 + 1 * k.val = k.val; rw [(idx3 t).2]; omega

/-- the fifth the labels, -/
theorem blk4 (t : Fin cfg0.N) (j : Fin 8192) : b4 m d t (ix2 j (0 : Fin 1)) = labs m d (ix1 j) := by
  rw [← shapeCast_a_a1_apply (labs m d) shapeCasts_S8192_S8192x1 j (0 : Fin 1), ← V_v15]
  unfold b4 iblk
  rw [View.read_apply]
  show V m d main_v15 _ = _
  congr 1
  funext ax
  apply Fin.ext
  match ax with
  | ⟨0, _⟩ => show win0_4.index t 0 * 8192 + 1 * j.val = j.val; rw [(idx4 t).1]; omega
  | ⟨1, _⟩ => show win0_4.index t 1 * 1 + 1 * 0 = 0; rw [(idx4 t).2]

/-- and the sixth the labels of the anchors. -/
theorem blk5 (t : Fin cfg0.N) (c : Fin 256) : b5 m d t (ix2 (0 : Fin 1) c) = labs m d (ix1 (anchor t c)) := by
  rw [← shapeCast_a_1a_apply (labs m d) shapeCasts_S8192_S1x8192 (0 : Fin 1) (anchor t c), ← V_v16]
  unfold b5 iblk
  rw [View.read_apply]
  show V m d main_v16 _ = _
  congr 1
  funext ax
  apply Fin.ext
  match ax with
  | ⟨0, _⟩ => show win0_5.index t 0 * 1 + 1 * 0 = 0; rw [(idx5 t).1]
  | ⟨1, _⟩ => show win0_5.index t 1 * 256 + 1 * c.val = 256 * t.val + c.val; rw [(idx5 t).2]; omega

/-! ## The arrays at an index -/

/-- The five pieces read at an index, the last one zero: the pieces' values by column. -/
theorem cat_at (p q r s : FVec Ideal S8192x1 .f32) (i : Fin 8192) (k : Fin 8) : (cat p q r s zeros (ix2 i k) : EReal)
    = ![p (ix2 i (0 : Fin 1)), q (ix2 i (0 : Fin 1)), r (ix2 i (0 : Fin 1)), s (ix2 i (0 : Fin 1)), 0, 0, 0, 0] k := by
  have z : ∀ u : Fin 4, (zeros (ix2 i u) : EReal) = 0 := fun u => Ideal.ofBits_zero_f32
  unfold cat
  fin_cases k
  · exact concatenate_apply_piece 1 _ _ (ix2 i (0 : Fin 8)) 0 (by simp) S8192x1 p rfl rfl 0 rfl (ix2 i (0 : Fin 1))
      (fun b hb => by match b with | ⟨0, _⟩ => rfl | ⟨1, _⟩ => exact absurd rfl hb) rfl
  · exact concatenate_apply_piece 1 _ _ (ix2 i (1 : Fin 8)) 1 (by simp) S8192x1 q rfl rfl 1 rfl (ix2 i (0 : Fin 1))
      (fun b hb => by match b with | ⟨0, _⟩ => rfl | ⟨1, _⟩ => exact absurd rfl hb) rfl
  · exact concatenate_apply_piece 1 _ _ (ix2 i (2 : Fin 8)) 2 (by simp) S8192x1 r rfl rfl 2 rfl (ix2 i (0 : Fin 1))
      (fun b hb => by match b with | ⟨0, _⟩ => rfl | ⟨1, _⟩ => exact absurd rfl hb) rfl
  · exact concatenate_apply_piece 1 _ _ (ix2 i (3 : Fin 8)) 3 (by simp) S8192x1 s rfl rfl 3 rfl (ix2 i (0 : Fin 1))
      (fun b hb => by match b with | ⟨0, _⟩ => rfl | ⟨1, _⟩ => exact absurd rfl hb) rfl
  · exact (concatenate_apply_piece 1 _ _ (ix2 i (4 : Fin 8)) 4 (by simp) S8192x4 zeros rfl rfl 4 rfl (ix2 i (0 : Fin 4))
      (fun b hb => by match b with | ⟨0, _⟩ => rfl | ⟨1, _⟩ => exact absurd rfl hb) rfl).trans (z _)
  · exact (concatenate_apply_piece 1 _ _ (ix2 i (5 : Fin 8)) 4 (by simp) S8192x4 zeros rfl rfl 4 rfl (ix2 i (1 : Fin 4))
      (fun b hb => by match b with | ⟨0, _⟩ => rfl | ⟨1, _⟩ => exact absurd rfl hb) rfl).trans (z _)
  · exact (concatenate_apply_piece 1 _ _ (ix2 i (6 : Fin 8)) 4 (by simp) S8192x4 zeros rfl rfl 4 rfl (ix2 i (2 : Fin 4))
      (fun b hb => by match b with | ⟨0, _⟩ => rfl | ⟨1, _⟩ => exact absurd rfl hb) rfl).trans (z _)
  · exact (concatenate_apply_piece 1 _ _ (ix2 i (7 : Fin 8)) 4 (by simp) S8192x4 zeros rfl rfl 4 rfl (ix2 i (3 : Fin 4))
      (fun b hb => by match b with | ⟨0, _⟩ => rfl | ⟨1, _⟩ => exact absurd rfl hb) rfl).trans (z _)

variable (x : Fin 8192 → Fin 128 → ℝ)

section
variable (x0 : FVec Ideal S8192x128 .f32) (hx : ∀ i k, x0 (ix2 i k) = (x i k : EReal))
include hx

/-- Minus half a row's squared norm. -/
theorem nrm_at (i : Fin 8192) : nrm x0 (ix2 i (0 : Fin 1)) = ((-(1 / 2) * Mining.dot x i i : ℝ) : EReal) := by
  unfold nrm
  rw [mulf_apply, EReal.coe_mul]
  refine congrArg₂ _ Mining.neg_half_f32 ?_
  refine (broadcastInDim_apply _ _ _ _ (ix1 i) (fun ax => by match ax with | ⟨0, _⟩ => rfl)).trans ?_
  simp only [Host.reduceAdd, Ideal.hostReduceAdd_def]
  rw [Ideal.hostReduceAdd_single reducesTo_S8192x128_S8192_d1 (by decide)]
  show Ideal.ofBits .f32 0x00000000#32 + ∑ k : Fin 128, _ = _
  rw [Ideal.ofBits_zero_f32, zero_add]
  unfold Mining.dot
  rw [Mining.coe_sum]
  refine Finset.sum_congr rfl fun k _ => ?_
  have e : (Shape.Reduces.lift (s := S8192x128) (a := 1) (t := S8192) (by decide) (ix1 i) k) = ix2 i k := eq_ix2 _
  rw [e, mulf_apply, hx]
  exact (EReal.coe_mul _ _).symm

/-- The rounding changes nothing over the extended reals, -/
theorem hi_at (i : Fin 8192) : hi x0 (ix2 i (0 : Fin 1)) = ((-(1 / 2) * Mining.dot x i i : ℝ) : EReal) := nrm_at x x0 hx i

/-- so nothing is left over. -/
theorem lo_at (i : Fin 8192) : lo x0 (ix2 i (0 : Fin 1)) = 0 := by
  unfold lo
  rw [subf_apply, nrm_at x x0 hx, hi_at x x0 hx]
  show ((_ : ℝ) : EReal) - ((_ : ℝ) : EReal) = 0
  rw [← EReal.coe_sub, sub_self, EReal.coe_zero]

end

variable (hx : ∀ i k, emb m d (ix2 i k) = (x i k : EReal))
include hx

/-- The block value of a pair: minus half the squared distance. -/
theorem pair_at (t : Fin cfg0.N) (j : Fin 8192) (c : Fin 256) :
    Block.pair (b0 m d t) (b1 m d t) (b2 m d t) (b3 m d t) j c = ((-(Mining.dist x (anchor t c) j / 2) : ℝ) : EReal) := by
  have ho : ∀ i, (ones (ix2 i (0 : Fin 1)) : EReal) = 1 := fun i => Mining.one_f32
  unfold Block.pair
  have h1 : (∑ k : Fin 128, (b0 m d t (ix2 j k) : EReal) * b1 m d t (ix2 c k))
      = ((Mining.dot x j (anchor t c) : ℝ) : EReal) := by
    unfold Mining.dot
    rw [Mining.coe_sum]
    refine Finset.sum_congr rfl fun k _ => ?_
    rw [blk0, blk1, V_v0, truncf_apply, truncf_apply, hx, hx, EReal.coe_mul]
  have h2 : (∑ k : Fin 8, (b2 m d t (ix2 j k) : EReal) * b3 m d t (ix2 c k))
      = ((-(1 / 2) * Mining.dot x j j : ℝ) : EReal) + ((-(1 / 2) * Mining.dot x (anchor t c) (anchor t c) : ℝ) : EReal) := by
    refine (Finset.sum_congr rfl fun k _ => ?_ : _ = ∑ k : Fin 8,
      ![((-(1 / 2) * Mining.dot x j j : ℝ) : EReal), 0, 1, 1, 0, 0, 0, 0] k
        * ![1, 1, ((-(1 / 2) * Mining.dot x (anchor t c) (anchor t c) : ℝ) : EReal), 0, 0, 0, 0, 0] k).trans ?_
    · rw [blk2, blk3, V_v12, V_v14, truncf_apply, truncf_apply, cat_at, cat_at, hi_at x _ hx, lo_at x _ hx, hi_at x _ hx, lo_at x _ hx, ho, ho]
    · rw [Fin.sum_univ_eight]
      simp
  rw [h1, h2]
  rw [← EReal.coe_add, ← EReal.coe_add, Mining.dist_comm, Mining.dist_eq]
  exact congrArg Real.toEReal (by ring)

omit hx in
/-- The block's mask of one label. -/
theorem same_iff (t : Fin cfg0.N) (j : Fin 8192) (c : Fin 256) : Block.Same (b4 m d t) (b5 m d t) j c
    ↔ labs m d (ix1 (anchor t c)) = labs m d (ix1 j) := by
  unfold Block.Same
  rw [blk4, blk5]
  exact eq_comm

/-- The block's hinge is half the hinge loss of the pair. -/
theorem hinge_eq (t : Fin cfg0.N) (j : Fin 8192) (c : Fin 256) :
    Block.hinge (b0 m d t) (b1 m d t) (b2 m d t) (b3 m d t) (b4 m d t) (b5 m d t) (grid0.coords t 0).val j c
      = Mining.half (Mining.dist x) (fun i => labs m d (ix1 i)) (anchor t c) j := by
  classical
  unfold Block.hinge Mining.half
  have h1 : Block.top (b0 m d t) (b1 m d t) (b2 m d t) (b3 m d t) (b4 m d t) (b5 m d t) c
      = min (Mining.near (Mining.dist x) (fun i => labs m d (ix1 i)) (anchor t c)) 0 := by
    unfold Block.top Mining.near
    refine congrArg (min · 0) (Finset.sup_congr rfl fun k _ => ?_)
    rw [pair_at m d x hx]
    exact if_congr (same_iff m d t k c) rfl rfl
  have h2 : Block.scr (b0 m d t) (b1 m d t) (b2 m d t) (b3 m d t) (b4 m d t) (b5 m d t) (grid0.coords t 0).val j c
      = Mining.entry (Mining.dist x) (fun i => labs m d (ix1 i)) (anchor t c) j := by
    unfold Block.scr Mining.entry
    rw [pair_at m d x hx, coord]
    have hne : j.val ≠ 256 * t.val + c.val ↔ anchor t c ≠ j := by
      rw [ne_eq, ne_eq, Fin.ext_iff, eq_comm]
      rfl
    exact if_congr (and_congr (same_iff m d t j c) hne) rfl rfl
  rw [h1, h2]

end Inputs
-- ==== Proof.Arrays.lean ====
/-  What the kernel's two output arrays hold after the run, and what the host operations after the region make of them: the
    count of the valid pairs, and the hinge terms summed and divided by that count. -/
module

public import proofs.«01_k».proof.Proof.Inputs

@[expose] public section

noncomputable section

open scoped BigOperators

namespace Arrays

open Idealize.ShloMosaic Idealize.ShloMosaic.ValueIdx Idealize.ShloMosaic.TcCoe Idealize.SL.Sem Cert.KernelIdeal Cert.KernelIdeal.Gen
open Inputs (emb labs anchor)

/-! ## Rows of the embeddings and elements of an output array -/

/-- The row an element of an output array stands for. -/
def row (i : S32x1x256.Idx) : Fin 8192 := ⟨256 * (i 0).val + (i 2).val, by
  have h0 : (i 0).val < 32 := (i 0).isLt
  have h2 : (i 2).val < 256 := (i 2).isLt
  omega⟩

/-- Each row has one element. -/
theorem row_bijective : Function.Bijective row := by
  constructor
  · intro i j h
    have h : 256 * (i 0).val + (i 2).val = 256 * (j 0).val + (j 2).val := congrArg Fin.val h
    have i1 : (i 1).val < 1 := (i 1).isLt
    have j1 : (j 1).val < 1 := (j 1).isLt
    have i2 : (i 2).val < 256 := (i 2).isLt
    have j2 : (j 2).val < 256 := (j 2).isLt
    funext a
    apply Fin.ext
    match a with
    | ⟨0, _⟩ => show (i 0).val = (j 0).val; omega
    | ⟨1, _⟩ => show (i 1).val = (j 1).val; omega
    | ⟨2, _⟩ => show (i 2).val = (j 2).val; omega
  · intro r
    have hr := r.isLt
    refine ⟨ix3 (⟨r.val / 256, by omega⟩ : Fin 32) (0 : Fin 1) (⟨r.val % 256, by omega⟩ : Fin 256), Fin.ext ?_⟩
    show 256 * (r.val / 256) + r.val % 256 = r.val
    omega

/-- So a sum over the array is a sum over the rows. -/
theorem sum_row {α : Type} [AddCommMonoid α] (f : Fin 8192 → α) : ∑ i, f (row i) = ∑ r, f r :=
  Fintype.sum_bijective row row_bijective _ _ fun _ => rfl

/-! ## The arrays after the run -/

variable (m : (ℓ : Loc nD τ sig) → Buf (Elt Ideal) ℓ) (d : Dev nD)
variable (x : Fin 8192 → Fin 128 → ℝ)

/-- The label of each row. -/
abbrev lab (i : Fin 8192) : BitVec 32 := labs m d (ix1 i)

/-- Each row's hinges summed over the partners. -/
@[irreducible] def sums : FVec Ideal S32x1x256 .f32 := fun i => ∑ j, Mining.half (Mining.dist x) (lab m d) (row i) j

/-- Each row's number of valid partners. -/
@[irreducible] def counts : FVec Ideal S32x1x256 .f32 := fun i => ((Mining.cnt (Mining.dist x) (lab m d) (row i) : ℝ) : EReal)

/-- An element of the row sums, -/
theorem sums_at (i : S32x1x256.Idx) : sums m d x i = ∑ j, Mining.half (Mining.dist x) (lab m d) (row i) j := by unfold sums; rfl

/-- and of the counts. -/
theorem counts_at (i : S32x1x256.Idx) : counts m d x i = ((Mining.cnt (Mining.dist x) (lab m d) (row i) : ℝ) : EReal) := by
  unfold counts; rfl

/-- The blocks of the first output array are its rows of 256, -/
theorem idx6 : ∀ t : Fin cfg0.N, win0_6.index t 0 = t.val ∧ win0_6.index t 1 = 0 ∧ win0_6.index t 2 = 0 := by decide +kernel

/-- and those of the second. -/
theorem idx7 : ∀ t : Fin cfg0.N, win0_7.index t 0 = t.val ∧ win0_7.index t 1 = 0 ∧ win0_7.index t 2 = 0 := by decide +kernel

/-- Every element of the first output array lies in the block of one point, -/
theorem cover6 (i : S32x1x256.Idx) : ∃ t : Fin cfg0.N, (cfg0.win 6).flush t = true ∧ i ∈ ((cfg0.win 6).blk t).view.set := by
  have h0 : (i 0).val < 32 := (i 0).isLt
  have h1 : (i 1).val < 1 := (i 1).isLt
  have h2 : (i 2).val < 256 := (i 2).isLt
  obtain ⟨t, ht⟩ : ∃ t : Fin cfg0.N, t.val = (i 0).val := ⟨⟨(i 0).val, by have h : cfg0.N = 32 := N_0; omega⟩, rfl⟩
  refine ⟨t, flush0_6 t, ?_⟩
  show i ∈ ((View.whole main_v17_0).slice (win0_6.rect t)).set
  rw [View.set_slice_whole, Rect.mem_set_unit]
  intro a
  match a with
  | ⟨0, _⟩ => show win0_6.index t 0 * 1 ≤ (i 0).val ∧ (i 0).val < win0_6.index t 0 * 1 + 1; rw [(idx6 t).1]; omega
  | ⟨1, _⟩ => show win0_6.index t 1 * 1 ≤ (i 1).val ∧ (i 1).val < win0_6.index t 1 * 1 + 1; rw [(idx6 t).2.1]; omega
  | ⟨2, _⟩ => show win0_6.index t 2 * 256 ≤ (i 2).val ∧ (i 2).val < win0_6.index t 2 * 256 + 256; rw [(idx6 t).2.2]; omega

/-- and so does every element of the second. -/
theorem cover7 (i : S32x1x256.Idx) : ∃ t : Fin cfg0.N, (cfg0.win 7).flush t = true ∧ i ∈ ((cfg0.win 7).blk t).view.set := by
  have h0 : (i 0).val < 32 := (i 0).isLt
  have h1 : (i 1).val < 1 := (i 1).isLt
  have h2 : (i 2).val < 256 := (i 2).isLt
  obtain ⟨t, ht⟩ : ∃ t : Fin cfg0.N, t.val = (i 0).val := ⟨⟨(i 0).val, by have h : cfg0.N = 32 := N_0; omega⟩, rfl⟩
  refine ⟨t, flush0_7 t, ?_⟩
  show i ∈ ((View.whole main_v17_1).slice (win0_7.rect t)).set
  rw [View.set_slice_whole, Rect.mem_set_unit]
  intro a
  match a with
  | ⟨0, _⟩ => show win0_7.index t 0 * 1 ≤ (i 0).val ∧ (i 0).val < win0_7.index t 0 * 1 + 1; rw [(idx7 t).1]; omega
  | ⟨1, _⟩ => show win0_7.index t 1 * 1 ≤ (i 1).val ∧ (i 1).val < win0_7.index t 1 * 1 + 1; rw [(idx7 t).2.1]; omega
  | ⟨2, _⟩ => show win0_7.index t 2 * 256 ≤ (i 2).val ∧ (i 2).val < win0_7.index t 2 * 256 + 256; rw [(idx7 t).2.2]; omega

section
variable (hx : ∀ i k, emb m d (ix2 i k) = (x i k : EReal))
include hx

/-- The first output block of a point, over the embeddings, -/
theorem block6 (t : Fin cfg0.N) (c : Fin 256) : (outsAt0 m d t).1 (ix3 (0 : Fin 1) (0 : Fin 1) c)
    = ∑ j, Mining.half (Mining.dist x) (lab m d) (anchor t c) j :=
  (Block.outs_fst m d t c).trans (Finset.sum_congr rfl fun j _ => Inputs.hinge_eq m d x hx t j c)

/-- and the second. -/
theorem block7 (t : Fin cfg0.N) (c : Fin 256) : (outsAt0 m d t).2 (ix3 (0 : Fin 1) (0 : Fin 1) c)
    = ((Mining.cnt (Mining.dist x) (lab m d) (anchor t c) : ℝ) : EReal) := by
  classical
  refine (Block.outs_snd m d t c).trans ((Finset.sum_congr rfl fun j _ => ?_).trans
    (Mining.sum_ind (Mining.dist x) (lab m d) (Mining.dist_nonneg x) (anchor t c)))
  have h : (0 < Block.hinge _ _ _ _ _ _ _ j c) = (0 < Mining.half (Mining.dist x) (lab m d) (anchor t c) j) :=
    congrArg (fun v : EReal => 0 < v) (Inputs.hinge_eq m d x hx t j c)
  exact if_congr (iff_of_eq h) rfl rfl

/-- What a point writes back to the first output array is its block of the row sums, -/
theorem flushed6 (t : Fin cfg0.N) : (dats m 0 d).flushed 6 t = ((cfg0.win 6).blk t).view.read (Elt Ideal) (sums m d x) := by
  show (cfg0.win 6).cut (grid0.coords t) ((dats m 0 d).after 6 t) = _
  rw [after0_6]
  funext y
  obtain ⟨a, b, c, rfl⟩ : ∃ (a : Fin 1) (b : Fin 1) (c : Fin 256), y = ix3 a b c := ⟨_, _, _, eq_ix3 y⟩
  obtain rfl := Subsingleton.elim a 0
  obtain rfl := Subsingleton.elim b 0
  rw [View.read_apply]
  refine (block6 m d x hx t c).trans ?_
  show _ = sums m d x _
  rw [sums_at]
  have e : anchor t c = row (((cfg0.win 6).blk t).view.emb (ix3 0 0 c)) := Fin.ext (by
    show 256 * t.val + c.val = 256 * (win0_6.index t 0 * 1 + 1 * 0) + (win0_6.index t 2 * 256 + 1 * c.val)
    rw [(idx6 t).1, (idx6 t).2.2]; omega)
  rw [e]

/-- and to the second array its block of the counts. -/
theorem flushed7 (t : Fin cfg0.N) : (dats m 0 d).flushed 7 t = ((cfg0.win 7).blk t).view.read (Elt Ideal) (counts m d x) := by
  show (cfg0.win 7).cut (grid0.coords t) ((dats m 0 d).after 7 t) = _
  rw [after0_7]
  funext y
  obtain ⟨a, b, c, rfl⟩ : ∃ (a : Fin 1) (b : Fin 1) (c : Fin 256), y = ix3 a b c := ⟨_, _, _, eq_ix3 y⟩
  obtain rfl := Subsingleton.elim a 0
  obtain rfl := Subsingleton.elim b 0
  rw [View.read_apply]
  refine (block7 m d x hx t c).trans ?_
  show _ = counts m d x _
  rw [counts_at]
  have e : anchor t c = row (((cfg0.win 7).blk t).view.emb (ix3 0 0 c)) := Fin.ext (by
    show 256 * t.val + c.val = 256 * (win0_7.index t 0 * 1 + 1 * 0) + (win0_7.index t 2 * 256 + 1 * c.val)
    rw [(idx7 t).1, (idx7 t).2.2]; omega)
  rw [e]

/-- The first output array ends at the row sums, -/
theorem final6 : (dats m 0 d).arrAt 6 cfg0.N = sums m d x :=
  (dats m 0 d).arrAt_eq_of_cover 6 (sums m d x) (fun t _ => flushed6 m d x hx t) cover6

/-- and the second at the counts. -/
theorem final7 : (dats m 0 d).arrAt 7 cfg0.N = counts m d x :=
  (dats m 0 d).arrAt_eq_of_cover 7 (counts m d x) (fun t _ => flushed7 m d x hx t) cover7

end

/-! ## The host operations after the region -/

/-- The number of pairs the host counts from the second output array. -/
def pairs (q : FVec Ideal S32x1x256 .f32) : IVec S_ 32 :=
  Host.reduce IntOp.addi (fptosi 32 q) (constantI S_ 32 0#32) reducesTo_S32x1x256_S_d0_1_2 h_S_

/-- The loss the host computes from the two output arrays. -/
def loss (p q : FVec Ideal S32x1x256 .f32) : FVec Ideal S_ .f32 :=
  Host.divf (addf (mulf (constant (F := Ideal) S_ .f32 0x40000000#32)
      (Host.reduceAdd p (constant (F := Ideal) S_ .f32 0x00000000#32) reducesTo_S32x1x256_S_d0_1_2 h_S_)) (sitofp .f32 (pairs q)))
    (sitofp .f32 (maxsi (pairs q) (constantI S_ 32 1#32)))

/-- The count is the number of valid pairs. -/
theorem pairs_eq : pairs (counts m d x) ix0 = BitVec.ofNat 32 (Mining.count (Mining.dist x) (lab m d)) := by
  unfold pairs
  rw [Host.reduce_eq_fold]
  have h : ∀ i : S32x1x256.Idx, fptosi 32 (counts m d x) i = BitVec.ofNat 32 (Mining.cnt (Mining.dist x) (lab m d) (row i)) := fun i =>
    (congrArg (Ideal.fptosi 32) (counts_at m d x i)).trans (Mining.fptosi_nat _ (lt_of_le_of_lt (Mining.cnt_le _ _ _) (by norm_num)))
  rw [show fptosi 32 (counts m d x) = _ from funext h]
  rw [Finset.filter_true_of_mem fun i _ => (Subsingleton.elim _ _ : _ = ix0)]
  exact (Mining.fold_addi _ _).trans (congrArg _ (sum_row fun r => Mining.cnt (Mining.dist x) (lab m d) r))

/-- The numerator is the sum of the hinge terms of the valid pairs. -/
theorem loss_eq : loss (sums m d x) (counts m d x) ix0
    = Ideal.div (∑ i, ∑ j, Mining.term (Mining.dist x) (lab m d) i j)
        (FloatOps.sitofp (F := Ideal) .f32 (IntOp.maxsi (BitVec.ofNat 32 (Mining.count (Mining.dist x) (lab m d))) 1#32)) := by
  have hc : Mining.count (Mining.dist x) (lab m d) < 2 ^ 31 := lt_of_le_of_lt (Mining.count_le _ _) (by norm_num)
  have hs : Host.reduceAdd (sums m d x) (constant (F := Ideal) S_ .f32 0x00000000#32) reducesTo_S32x1x256_S_d0_1_2 h_S_ ix0
      = ∑ i, ∑ j, Mining.half (Mining.dist x) (lab m d) i j := by
    simp only [Host.reduceAdd, Ideal.hostReduceAdd_def]
    rw [Ideal.hostReduceAdd_total reducesTo_S32x1x256_S_d0_1_2 (fun b => b.elim0)]
    show Ideal.ofBits .f32 0x00000000#32 + _ = _
    rw [Ideal.ofBits_zero_f32, zero_add]
    rw [Finset.sum_congr rfl fun i _ => sums_at m d x i]
    exact sum_row fun r => ∑ j, Mining.half (Mining.dist x) (lab m d) r j
  unfold loss
  show Ideal.div (Ideal.ofBits .f32 0x40000000#32 * _ + FloatOps.sitofp (F := Ideal) .f32 (pairs (counts m d x) ix0))
    (FloatOps.sitofp (F := Ideal) .f32 (IntOp.maxsi (pairs (counts m d x) ix0) 1#32)) = _
  rw [hs, pairs_eq, Mining.two_f32]
  refine congrArg₂ Ideal.div ?_ rfl
  rw [Mining.sum_term _ _ (Mining.dist_nonneg x)]
  refine congrArg₂ (· + ·) rfl ?_
  show (((BitVec.ofNat 32 _).toInt : ℝ) : EReal) = _
  rw [Mining.toInt_ofNat _ hc, Int.cast_natCast]

/-! ## The run -/

/-- What the lines after the region leave in the count's buffer, -/
theorem tail_v19 : Pipeline.afterTail₀ cfgs (dats m) 0 (V0 m) [hostOps1] d main_v19 = pairs ((dats m 0 d).arrAt 7 cfg0.N) := by
  unfold Pipeline.afterTail₀
  show StableHlo.after hostOps1 _ (Proc.devRef .tc main_v19) = _
  have h7 := (dats m 0 d).withArrays_arrAt sharedIn0 (V0 m d) (A_eq m d) 7
  rw [← h7]
  after_results
  rfl

/-- and in the loss's. -/
theorem tail_v26 : Pipeline.afterTail₀ cfgs (dats m) 0 (V0 m) [hostOps1] d main_v26
    = loss ((dats m 0 d).arrAt 6 cfg0.N) ((dats m 0 d).arrAt 7 cfg0.N) := by
  unfold Pipeline.afterTail₀
  show StableHlo.after hostOps1 _ (Proc.devRef .tc main_v26) = _
  have h6 := (dats m 0 d).withArrays_arrAt sharedIn0 (V0 m d) (A_eq m d) 6
  have h7 := (dats m 0 d).withArrays_arrAt sharedIn0 (V0 m d) (A_eq m d) 7
  rw [← h6, ← h7]
  after_results
  rfl

variable (ρ : Dev nD → PrngReg)

/-- The run, read: where the embeddings are reals, the two results and the arguments. -/
theorem run (X : Dev nD → Fin 8192 → Fin 128 → ℝ) (hX : ∀ c i k, emb m c (ix2 i k) = (X c i k : EReal)) :
    θ_run defs (onTc (τ := τ) (main (F := Ideal))) ⟨m, fun _ => 0, ρ⟩ fun r => ∀ c : Dev nD,
      r.2.mem ((c.tc : Thread nD τ).loc main_v26) = loss (sums m c (X c)) (counts m c (X c))
      ∧ r.2.mem ((c.tc : Thread nD τ).loc main_v19) = pairs (counts m c (X c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v26 (Pipeline.mem_restRefs_of main_v26 (by decide) (by decide))).trans
        ((tail_v26 m c).trans (by rw [final6 m c (X c) (hX c), final7 m c (X c) (hX c)])),
      ((h c).2 main_v19 (Pipeline.mem_restRefs_of main_v19 (by decide) (by decide))).trans
        ((tail_v19 m c).trans (by rw [final7 m c (X c) (hX c)])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Arrays
-- ==== Proof.Finite.lean ====
/-  The precondition read back: where every embedding is finite, the embeddings are real numbers. -/
module

public import proofs.«01_k».proof.Proof.Mining
public import proofs.«01_k».proof.Proof.Gen.Pre_finite
public import Idealize.ShloMosaic.Lib.ReduceAll
public import Idealize.ShloMosaic.Lib.ValueIdx

@[expose] public section

noncomputable section

namespace Finite

open Idealize.ShloMosaic Idealize.ShloMosaic.ValueIdx Cert.Pre_finite Cert.Pre_finite.Gen

/-- An extended real whose absolute value is below infinity is a real. -/
theorem real_of_abs (v : EReal) (h : max v (-v) < ⊤) : ∃ r : ℝ, v = (r : EReal) := by
  induction v with
  | bot => simp at h
  | coe r => exact ⟨r, rfl⟩
  | top => simp at h

/-- The precondition says the embeddings are real numbers. -/
theorem real_of_fn (x0 : FVec Ideal S8192x128 .f32) (x1 : IVec S8192 32) (h : fn (F := Ideal) x0 x1 = fun _ => 1#1) :
    ∃ x : Fin 8192 → Fin 128 → ℝ, ∀ i k, x0 (ix2 i k) = (x i k : EReal) := by
  have hr : ∀ i k, ∃ r : ℝ, x0 (ix2 i k) = (r : EReal) := fun i k => by
    have : Subsingleton S_.Idx := ⟨fun a b => funext fun e => e.elim0⟩
    have h0 := congrFun h ix0
    unfold fn at h0
    dsimp only at h0
    have e := Host.reduce_andi_all _ _ _ _ _ h0 (ix2 i k)
    have e : Ideal.cmp .olt (max (x0 (ix2 i k) : EReal) (-(x0 (ix2 i k)))) (Ideal.ofBits .f32 0x7F800000#32) = 1#1 := e
    rw [Mining.cmp_olt, Mining.top_f32] at e
    refine real_of_abs _ ?_
    by_contra hn
    rw [Mining.bit, if_neg hn] at e
    exact absurd e (by decide)
  choose x hx using hr
  exact ⟨x, hx⟩

end Finite
-- ==== Proof.lean ====
/-  The proof of `Cert.Claim`: the five claims about the kernel, its idealization and the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.RefValue
public import proofs.«01_k».proof.Proof.Arrays
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference runs, leaves its arguments as they were, and ends with every semaphore counter at zero. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Over the extended reals the kernel and the reference end with equal results, where the embeddings are finite. -/
theorem algebraic : Cert.algebraic_KernelIdeal_ReferenceIdeal_pre_finite := by
  intro m ρ m' ρ' hpre hagree
  choose X hX using fun c => Finite.real_of_fn _ _ (hpre c)
  refine ⟨fun c => Arrays.loss (Arrays.sums m c (X c)) (Arrays.counts m c (X c)), fun c => Arrays.pairs (Arrays.counts m c (X c)),
    Arrays.run m ρ X hX, ?_⟩
  refine (θ_run Cert.ReferenceIdeal.defs _ _).mono (fun _ h c => ?_) (Cert.ReferenceIdeal.Value.run (F := Ideal) m' ρ')
  have hc := Arrays.pairs_eq m c (X c)
  have hl := Arrays.loss_eq m c (X c)
  have hc' := RefValue.count_at (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (X c) (hX c)
  have ht' := RefValue.total_at (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (X c) (hX c)
  refine ⟨(h c).1.trans ?_, (h c).2.1.trans ?_, (h c).2.2⟩
  · rw [Cert.ReferenceIdeal.Read.val_main_v51_eq, (hagree c).1, (hagree c).2]
    funext i
    obtain rfl := ValueIdx.eq_ix0 i
    rw [Cert.ReferenceIdeal.Read.val_main_v51_apply, Cert.ReferenceIdeal.Read.val_main_v50_apply,
      Cert.ReferenceIdeal.Read.val_main_v49_apply, hc', ht']
    exact hl.symm
  · rw [Cert.ReferenceIdeal.Read.val_main_v46_eq, (hagree c).1, (hagree c).2]
    funext i
    obtain rfl := ValueIdx.eq_ix0 i
    rw [hc']
    exact hc.symm

/-- The claims. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
